-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_pivots [hPre_positive_pivots : Cert.Pre_positive_pivots.Facts] (m : (ℓ : Loc Cert.KernelIdeal.nD Cert.KernelIdeal.τ Cert.KernelIdeal.sig) → Buf (Elt Ideal) ℓ) : Prop :=
  ∀ c : Dev Cert.KernelIdeal.nD,
    (Cert.Pre_positive_pivots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_pivots [hPre_positive_pivots : Cert.Pre_positive_pivots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_pivots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positive_pivots [hKernelIdeal : Cert.KernelIdeal.Facts] [hPre_positive_pivots : Cert.Pre_positive_pivots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_pivots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positive_pivots [hReferenceIdeal : Cert.ReferenceIdeal.Facts] [hPre_positive_pivots : Cert.Pre_positive_pivots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_pivots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_positive_pivots [hKernelIdeal : Cert.KernelIdeal.Facts] [hReferenceIdeal : Cert.ReferenceIdeal.Facts] [hPre_positive_pivots : Cert.Pre_positive_pivots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_pivots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positive_pivots : Cert.Pre_positive_pivots.Facts),
    quiescent_Kernel (hKernel := hKernel)
    ∧ quiescent_KernelIdeal (hKernelIdeal := hKernelIdeal)
    ∧ quiescent_KernelIdeal_pre_positive_pivots (hKernelIdeal := hKernelIdeal) (hPre_positive_pivots := hPre_positive_pivots)
    ∧ quiescent_ReferenceIdeal (hReferenceIdeal := hReferenceIdeal)
    ∧ quiescent_ReferenceIdeal_pre_positive_pivots (hReferenceIdeal := hReferenceIdeal) (hPre_positive_pivots := hPre_positive_pivots)
    ∧ preserves_Kernel_KernelIdeal
    ∧ algebraic_KernelIdeal_ReferenceIdeal_pre_positive_pivots (hKernelIdeal := hKernelIdeal) (hReferenceIdeal := hReferenceIdeal) (hPre_positive_pivots := hPre_positive_pivots)
-- ==== Pre_positive_pivots.lean ====
abbrev S131072x1 : Shape := ⟨2, ![131072, 1]⟩
abbrev S131072x64 : Shape := ⟨2, ![131072, 64]⟩
abbrev S64x131072 : Shape := ⟨2, ![64, 131072]⟩
abbrev S64x64 : Shape := ⟨2, ![64, 64]⟩
abbrev S_ : Shape := ⟨0, ![]⟩
abbrev S64x1 : Shape := ⟨2, ![64, 1]⟩
abbrev S1x1 : Shape := ⟨2, ![1, 1]⟩
abbrev S1x64 : Shape := ⟨2, ![1, 64]⟩

class Facts : Prop where
  transposes_S131072x64_S64x131072_1_0 : S131072x64.Transposes [1, 0] S64x131072
  bcast_S_S64x1 : S_.BroadcastsInDim S64x1 (![] : Fin 0 → Fin S64x1.rank)
  sliceFits_S64x64_S64x1 : S64x64.Slices (fun _ => 0) S64x1
  h_S_ : 0 < S_.numel
  sliceFits_S64x64_S1x1 : S64x64.Slices (fun _ => 0) S1x1
  bcast_S1x1_S64x1_0_1 : S1x1.BroadcastsInDim S64x1 (![0, 1] : Fin 2 → Fin S64x1.rank)
  sliceFits_S64x64_S1x64 : S64x64.Slices (fun _ => 0) S1x64
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S131072x1 : S_.BroadcastsInDim S131072x1 (![] : Fin 0 → Fin S131072x1.rank)
  reducesTo_S131072x1_S_d0_1 : S131072x1.ReducesTo [0, 1] S_
  bcast_S_S131072x64 : S_.BroadcastsInDim S131072x64 (![] : Fin 0 → Fin S131072x64.rank)
  reducesTo_S131072x64_S_d0_1 : S131072x64.ReducesTo [0, 1] S_
  bcast_S_S64x64 : S_.BroadcastsInDim S64x64 (![] : Fin 0 → Fin S64x64.rank)
  reducesTo_S64x64_S_d0_1 : S64x64.ReducesTo [0, 1] S_
  dot_S64x131072_S131072x64_S64x64_1_0_0_1_n_n_wf : DotDims.WF S64x131072 S131072x64 S64x64 [1] [0] [0] [1] [] []

variable [Facts]

def dot_S64x131072_S131072x64_S64x64_1_0_0_1_n_n : DotDims S64x131072 S131072x64 S64x64 where
  lhsContracting := [1]
  rhsContracting := [0]
  lhsNonContracting := [0]
  rhsNonContracting := [1]
  lhsBatch := []
  rhsBatch := []
  wf := dot_S64x131072_S131072x64_S64x64_1_0_0_1_n_n_wf
def fn_clear_below {F : FTy → Type} [FloatOps F] (arg0 : FVec F S64x64 .f32) (arg1 : IVec S_ 32) : FVec F S64x64 .f32 :=
  let v0 : IVec S64x1 32 := iotaInDim S64x1 32 0
  let v1 : IVec S64x1 32 := broadcastInDim S64x1 ![] bcast_S_S64x1 arg1
  let v2 : IVec S64x1 1 := cmpi .sgt v0 v1
  let c : IVec S_ 32 := constantI S_ 32 0#32
  let v3 : FVec F S64x1 .f32 := (fun x i => Host.dynamicSlice S64x1 x (fun k => (i k (Shape.Idx.first h_S_)).toInt) sliceFits_S64x64_S64x1) arg0 (![c, arg1] : Fin 2 → IVec S_ 32)
  let v4 : FVec F S1x1 .f32 := (fun x i => Host.dynamicSlice S1x1 x (fun k => (i k (Shape.Idx.first h_S_)).toInt) sliceFits_S64x64_S1x1) arg0 (![arg1, arg1] : Fin 2 → IVec S_ 32)
  let v5 : FVec F S64x1 .f32 := broadcastInDim S64x1 ![0, 1] bcast_S1x1_S64x1_0_1 v4
  let v6 : FVec F S64x1 .f32 := Host.divf v3 v5
  let cst : FVec F S_ .f32 := constant S_ .f32 0x00000000#32
  let v7 : FVec F S64x1 .f32 := broadcastInDim S64x1 ![] bcast_S_S64x1 cst
  let v8 : FVec F S64x1 .f32 := select v2 v6 v7
  let c_0 : IVec S_ 32 := constantI S_ 32 0#32
  let v9 : FVec F S1x64 .f32 := (fun x i => Host.dynamicSlice S1x64 x (fun k => (i k (Shape.Idx.first h_S_)).toInt) sliceFits_S64x64_S1x64) arg0 (![arg1, c_0] : Fin 2 → IVec S_ 32)
  let v10 : FVec F S64x64 .f32 := broadcastInDim S64x64 ![0, 1] bcast_S64x1_S64x64_0_1 v8
  let v11 : FVec F S64x64 .f32 := broadcastInDim S64x64 ![0, 1] bcast_S1x64_S64x64_0_1 v9
  let v12 : FVec F S64x64 .f32 := mulf v10 v11
  let v13 : FVec F S64x64 .f32 := subf arg0 v12
  v13

def fn_part6 {F : FTy → Type} [FloatOps F] (main_v64 : FVec F S64x64 .f32) (main_v67 : IVec S64x64 1) (main_v76 : IVec S_ 1) : IVec S_ 1 :=
  let main_cst_65 : FVec F S_ .f32 := constant S_ .f32 0x00000000#32
  let main_v77 : FVec F S64x64 .f32 := broadcastInDim S64x64 ![] bcast_S_S64x64 main_cst_65
  let main_v78 : IVec S64x64 1 := cmpf .ogt main_v64 main_v77
  let main_v79 : IVec S64x64 1 := ori main_v67 main_v78
  let main_c_66 : IVec S_ 1 := constantI S_ 1 1#1
  let main_v80 : IVec S_ 1 := (fun x v => Host.reduce IntOp.andi x v reducesTo_S64x64_S_d0_1 h_S_) main_v79 main_c_66
  let main_v81 : IVec S_ 1 := andi main_v76 main_v80
  main_v81

def fn_part5 {F : FTy → Type} [FloatOps F] (main_arg0 : FVec F S131072x1 .f32) (main_arg1 : FVec F S131072x64 .f32) (main_v60 : FVec F S64x64 .f32) : IVec S_ 1 :=
  let main_c_58 : IVec S_ 32 := constantI S_ 32 59#32
  let main_v61 : FVec F S64x64 .f32 := fn_clear_below (F := F) main_v60 main_c_58
  let main_c_59 : IVec S_ 32 := constantI S_ 32 60#32
  let main_v62 : FVec F S64x64 .f32 := fn_clear_below (F := F) main_v61 main_c_59
  let main_c_60 : IVec S_ 32 := constantI S_ 32 61#32
  let main_v63 : FVec F S64x64 .f32 := fn_clear_below (F := F) main_v62 main_c_60
  let main_c_61 : IVec S_ 32 := constantI S_ 32 62#32
  let main_v64 : FVec F S64x64 .f32 := fn_clear_below (F := F) main_v63 main_c_61
  let main_v65 : IVec S64x64 32 := iotaInDim S64x64 32 0
  let main_v66 : IVec S64x64 32 := iotaInDim S64x64 32 1
  let main_v67 : IVec S64x64 1 := cmpi .ne main_v65 main_v66
  let main_v68 : FVec F S131072x1 .f32 := Host.absf main_arg0
  let main_cst : FVec F S_ .f32 := constant S_ .f32 0x7F800000#32
  let main_v69 : FVec F S131072x1 .f32 := broadcastInDim S131072x1 ![] bcast_S_S131072x1 main_cst
  let main_v70 : IVec S131072x1 1 := cmpf .olt main_v68 main_v69
  let main_c_62 : IVec S_ 1 := constantI S_ 1 1#1
  let main_v71 : IVec S_ 1 := (fun x v => Host.reduce IntOp.andi x v reducesTo_S131072x1_S_d0_1 h_S_) main_v70 main_c_62
  let main_v72 : FVec F S131072x64 .f32 := Host.absf main_arg1
  let main_cst_63 : FVec F S_ .f32 := constant S_ .f32 0x7F800000#32
  let main_v73 : FVec F S131072x64 .f32 := broadcastInDim S131072x64 ![] bcast_S_S131072x64 main_cst_63
  let main_v74 : IVec S131072x64 1 := cmpf .olt main_v72 main_v73
  let main_c_64 : IVec S_ 1 := constantI S_ 1 1#1
  let main_v75 : IVec S_ 1 := (fun x v => Host.reduce IntOp.andi x v reducesTo_S131072x64_S_d0_1 h_S_) main_v74 main_c_64
  let main_v76 : IVec S_ 1 := andi main_v71 main_v75
  fn_part6 (F := F) main_v64 main_v67 main_v76

def fn_part4 {F : FTy → Type} [FloatOps F] (main_arg0 : FVec F S131072x1 .f32) (main_arg1 : FVec F S131072x64 .f32) (main_v48 : FVec F S64x64 .f32) : IVec S_ 1 :=
  let main_c_46 : IVec S_ 32 := constantI S_ 32 47#32
  let main_v49 : FVec F S64x64 .f32 := fn_clear_below (F := F) main_v48 main_c_46
  let main_c_47 : IVec S_ 32 := constantI S_ 32 48#32
  let main_v50 : FVec F S64x64 .f32 := fn_clear_below (F := F) main_v49 main_c_47
  let main_c_48 : IVec S_ 32 := constantI S_ 32 49#32
  let main_v51 : FVec F S64x64 .f32 := fn_clear_below (F := F) main_v50 main_c_48
  let main_c_49 : IVec S_ 32 := constantI S_ 32 50#32
  let main_v52 : FVec F S64x64 .f32 := fn_clear_below (F := F) main_v51 main_c_49
  let main_c_50 : IVec S_ 32 := constantI S_ 32 51#32
  let main_v53 : FVec F S64x64 .f32 := fn_clear_below (F := F) main_v52 main_c_50
  let main_c_51 : IVec S_ 32 := constantI S_ 32 52#32
  let main_v54 : FVec F S64x64 .f32 := fn_clear_below (F := F) main_v53 main_c_51
  let main_c_52 : IVec S_ 32 := constantI S_ 32 53#32
  let main_v55 : FVec F S64x64 .f32 := fn_clear_below (F := F) main_v54 main_c_52
  let main_c_53 : IVec S_ 32 := constantI S_ 32 54#32
  let main_v56 : FVec F S64x64 .f32 := fn_clear_below (F := F) main_v55 main_c_53
  let main_c_54 : IVec S_ 32 := constantI S_ 32 55#32
  let main_v57 : FVec F S64x64 .f32 := fn_clear_below (F := F) main_v56 main_c_54
  let main_c_55 : IVec S_ 32 := constantI S_ 32 56#32
  let main_v58 : FVec F S64x64 .f32 := fn_clear_below (F := F) main_v57 main_c_55
  let main_c_56 : IVec S_ 32 := constantI S_ 32 57#32
  let main_v59 : FVec F S64x64 .f32 := fn_clear_below (F := F) main_v58 main_c_56
  let main_c_57 : IVec S_ 32 := constantI S_ 32 58#32
  let main_v60 : FVec F S64x64 .f32 := fn_clear_below (F := F) main_v59 main_c_57
  fn_part5 (F := F) main_arg0 main_arg1 main_v60

def fn_part3 {F : FTy → Type} [FloatOps F] (main_arg0 : FVec F S131072x1 .f32) (main_arg1 : FVec F S131072x64 .f32) (main_v36 : FVec F S64x64 .f32) : IVec S_ 1 :=
  let main_c_34 : IVec S_ 32 := constantI S_ 32 35#32
  let main_v37 : FVec F S64x64 .f32 := fn_clear_below (F := F) main_v36 main_c_34
  let main_c_35 : IVec S_ 32 := constantI S_ 32 36#32
  let main_v38 : FVec F S64x64 .f32 := fn_clear_below (F := F) main_v37 main_c_35
  let main_c_36 : IVec S_ 32 := constantI S_ 32 37#32
  let main_v39 : FVec F S64x64 .f32 := fn_clear_below (F := F) main_v38 main_c_36
  let main_c_37 : IVec S_ 32 := constantI S_ 32 38#32
  let main_v40 : FVec F S64x64 .f32 := fn_clear_below (F := F) main_v39 main_c_37
  let main_c_38 : IVec S_ 32 := constantI S_ 32 39#32
  let main_v41 : FVec F S64x64 .f32 := fn_clear_below (F := F) main_v40 main_c_38
  let main_c_39 : IVec S_ 32 := constantI S_ 32 40#32
  let main_v42 : FVec F S64x64 .f32 := fn_clear_below (F := F) main_v41 main_c_39
  let main_c_40 : IVec S_ 32 := constantI S_ 32 41#32
  let main_v43 : FVec F S64x64 .f32 := fn_clear_below (F := F) main_v42 main_c_40
  let main_c_41 : IVec S_ 32 := constantI S_ 32 42#32
  let main_v44 : FVec F S64x64 .f32 := fn_clear_below (F := F) main_v43 main_c_41
  let main_c_42 : IVec S_ 32 := constantI S_ 32 43#32
  let main_v45 : FVec F S64x64 .f32 := fn_clear_below (F := F) main_v44 main_c_42
  let main_c_43 : IVec S_ 32 := constantI S_ 32 44#32
  let main_v46 : FVec F S64x64 .f32 := fn_clear_below (F := F) main_v45 main_c_43
  let main_c_44 : IVec S_ 32 := constantI S_ 32 45#32
  let main_v47 : FVec F S64x64 .f32 := fn_clear_below (F := F) main_v46 main_c_44
  let main_c_45 : IVec S_ 32 := constantI S_ 32 46#32
  let main_v48 : FVec F S64x64 .f32 := fn_clear_below (F := F) main_v47 main_c_45
  fn_part4 (F := F) main_arg0 main_arg1 main_v48

def fn_part2 {F : FTy → Type} [FloatOps F] (main_arg0 : FVec F S131072x1 .f32) (main_arg1 : FVec F S131072x64 .f32) (main_v24 : FVec F S64x64 .f32) : IVec S_ 1 :=
  let main_c_22 : IVec S_ 32 := constantI S_ 32 23#32
  let main_v25 : FVec F S64x64 .f32 := fn_clear_below (F := F) main_v24 main_c_22
  let main_c_23 : IVec S_ 32 := constantI S_ 32 24#32
  let main_v26 : FVec F S64x64 .f32 := fn_clear_below (F := F) main_v25 main_c_23
  let main_c_24 : IVec S_ 32 := constantI S_ 32 25#32
  let main_v27 : FVec F S64x64 .f32 := fn_clear_below (F := F) main_v26 main_c_24
  let main_c_25 : IVec S_ 32 := constantI S_ 32 26#32
  let main_v28 : FVec F S64x64 .f32 := fn_clear_below (F := F) main_v27 main_c_25
  let main_c_26 : IVec S_ 32 := constantI S_ 32 27#32
  let main_v29 : FVec F S64x64 .f32 := fn_clear_below (F := F) main_v28 main_c_26
  let main_c_27 : IVec S_ 32 := constantI S_ 32 28#32
  let main_v30 : FVec F S64x64 .f32 := fn_clear_below (F := F) main_v29 main_c_27
  let main_c_28 : IVec S_ 32 := constantI S_ 32 29#32
  let main_v31 : FVec F S64x64 .f32 := fn_clear_below (F := F) main_v30 main_c_28
  let main_c_29 : IVec S_ 32 := constantI S_ 32 30#32
  let main_v32 : FVec F S64x64 .f32 := fn_clear_below (F := F) main_v31 main_c_29
  let main_c_30 : IVec S_ 32 := constantI S_ 32 31#32
  let main_v33 : FVec F S64x64 .f32 := fn_clear_below (F := F) main_v32 main_c_30
  let main_c_31 : IVec S_ 32 := constantI S_ 32 32#32
  let main_v34 : FVec F S64x64 .f32 := fn_clear_below (F := F) main_v33 main_c_31
  let main_c_32 : IVec S_ 32 := constantI S_ 32 33#32
  let main_v35 : FVec F S64x64 .f32 := fn_clear_below (F := F) main_v34 main_c_32
  let main_c_33 : IVec S_ 32 := constantI S_ 32 34#32
  let main_v36 : FVec F S64x64 .f32 := fn_clear_below (F := F) main_v35 main_c_33
  fn_part3 (F := F) main_arg0 main_arg1 main_v36

def fn_part1 {F : FTy → Type} [FloatOps F] (main_arg0 : FVec F S131072x1 .f32) (main_arg1 : FVec F S131072x64 .f32) (main_v12 : FVec F S64x64 .f32) : IVec S_ 1 :=
  let main_c_10 : IVec S_ 32 := constantI S_ 32 11#32
  let main_v13 : FVec F S64x64 .f32 := fn_clear_below (F := F) main_v12 main_c_10
  let main_c_11 : IVec S_ 32 := constantI S_ 32 12#32
  let main_v14 : FVec F S64x64 .f32 := fn_clear_below (F := F) main_v13 main_c_11
  let main_c_12 : IVec S_ 32 := constantI S_ 32 13#32
  let main_v15 : FVec F S64x64 .f32 := fn_clear_below (F := F) main_v14 main_c_12
  let main_c_13 : IVec S_ 32 := constantI S_ 32 14#32
  let main_v16 : FVec F S64x64 .f32 := fn_clear_below (F := F) main_v15 main_c_13
  let main_c_14 : IVec S_ 32 := constantI S_ 32 15#32
  let main_v17 : FVec F S64x64 .f32 := fn_clear_below (F := F) main_v16 main_c_14
  let main_c_15 : IVec S_ 32 := constantI S_ 32 16#32
  let main_v18 : FVec F S64x64 .f32 := fn_clear_below (F := F) main_v17 main_c_15
  let main_c_16 : IVec S_ 32 := constantI S_ 32 17#32
  let main_v19 : FVec F S64x64 .f32 := fn_clear_below (F := F) main_v18 main_c_16
  let main_c_17 : IVec S_ 32 := constantI S_ 32 18#32
  let main_v20 : FVec F S64x64 .f32 := fn_clear_below (F := F) main_v19 main_c_17
  let main_c_18 : IVec S_ 32 := constantI S_ 32 19#32
  let main_v21 : FVec F S64x64 .f32 := fn_clear_below (F := F) main_v20 main_c_18
  let main_c_19 : IVec S_ 32 := constantI S_ 32 20#32
  let main_v22 : FVec F S64x64 .f32 := fn_clear_below (F := F) main_v21 main_c_19
  let main_c_20 : IVec S_ 32 := constantI S_ 32 21#32
  let main_v23 : FVec F S64x64 .f32 := fn_clear_below (F := F) main_v22 main_c_20
  let main_c_21 : IVec S_ 32 := constantI S_ 32 22#32
  let main_v24 : FVec F S64x64 .f32 := fn_clear_below (F := F) main_v23 main_c_21
  fn_part2 (F := F) main_arg0 main_arg1 main_v24

def fn {F : FTy → Type} [FloatOps F] (main_arg0 : FVec F S131072x1 .f32) (main_arg1 : FVec F S131072x64 .f32) : IVec S_ 1 :=
  let main_v0 : FVec F S64x131072 .f32 := (transpose S64x131072 [1, 0] · transposes_S131072x64_S64x131072_1_0) main_arg1
  let main_v1 : FVec F S64x64 .f32 := (fun l r => Host.dotGeneral dot_S64x131072_S131072x64_S64x64_1_0_0_1_n_n none l r) main_v0 main_arg1
  let main_c : IVec S_ 32 := constantI S_ 32 0#32
  let main_v2 : FVec F S64x64 .f32 := fn_clear_below (F := F) main_v1 main_c
  let main_c_0 : IVec S_ 32 := constantI S_ 32 1#32
  let main_v3 : FVec F S64x64 .f32 := fn_clear_below (F := F) main_v2 main_c_0
  let main_c_1 : IVec S_ 32 := constantI S_ 32 2#32
  let main_v4 : FVec F S64x64 .f32 := fn_clear_below (F := F) main_v3 main_c_1
  let main_c_2 : IVec S_ 32 := constantI S_ 32 3#32
  let main_v5 : FVec F S64x64 .f32 := fn_clear_below (F := F) main_v4 main_c_2
  let main_c_3 : IVec S_ 32 := constantI S_ 32 4#32
  let main_v6 : FVec F S64x64 .f32 := fn_clear_below (F := F) main_v5 main_c_3
  let main_c_4 : IVec S_ 32 := constantI S_ 32 5#32
  let main_v7 : FVec F S64x64 .f32 := fn_clear_below (F := F) main_v6 main_c_4
  let main_c_5 : IVec S_ 32 := constantI S_ 32 6#32
  let main_v8 : FVec F S64x64 .f32 := fn_clear_below (F := F) main_v7 main_c_5
  let main_c_6 : IVec S_ 32 := constantI S_ 32 7#32
  let main_v9 : FVec F S64x64 .f32 := fn_clear_below (F := F) main_v8 main_c_6
  let main_c_7 : IVec S_ 32 := constantI S_ 32 8#32
  let main_v10 : FVec F S64x64 .f32 := fn_clear_below (F := F) main_v9 main_c_7
  let main_c_8 : IVec S_ 32 := constantI S_ 32 9#32
  let main_v11 : FVec F S64x64 .f32 := fn_clear_below (F := F) main_v10 main_c_8
  let main_c_9 : IVec S_ 32 := constantI S_ 32 10#32
  let main_v12 : FVec F S64x64 .f32 := fn_clear_below (F := F) main_v11 main_c_9
  fn_part1 (F := F) main_arg0 main_arg1 main_v12
-- ==== Kernel.lean ====
abbrev S131072x1 : Shape := ⟨2, ![131072, 1]⟩
abbrev S131072x64 : Shape := ⟨2, ![131072, 64]⟩
abbrev S64x1 : Shape := ⟨2, ![64, 1]⟩
abbrev S8192x1 : Shape := ⟨2, ![8192, 1]⟩
abbrev S8192x64 : Shape := ⟨2, ![8192, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S1 : Shape := ⟨1, ![1]⟩
abbrev S1x1x1 : Shape := ⟨3, ![1, 1, 1]⟩
abbrev S1x64x1 : Shape := ⟨3, ![1, 64, 1]⟩

abbrev nBuf : Space → Nat
  | .hbm => 3
  | .vmem => 7
  | .smem => 0
  | _ => 0

abbrev bufTy : (tb : Table) → Fin (tcTables nBuf tb) → BufTy
  | .hbm, ⟨0, _⟩ => ⟨S131072x1, .f32⟩
  | .hbm, ⟨1, _⟩ => ⟨S131072x64, .f32⟩
  | .hbm, ⟨2, _⟩ => ⟨S64x1, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S64x1, .f32⟩
  | .local _ .vmem, ⟨5, _⟩ => ⟨S64x64, .f32⟩
  | .local _ .vmem, ⟨6, _⟩ => ⟨S64x1, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_7 : BitVec 32 := 0#32
  let v12 : BitVec 1 := Scalar.cmpi .ne v11 c0_i32_7
  v12

@[reducible] def k0_t1_loop : Scf.Loop 32 :=
  let c0_i32_12 : BitVec 32 := 0#32
  let c64_i32 : BitVec 32 := 64#32
  let v15 : BitVec 32 := Scalar.addi c0_i32_12 c64_i32
  let c1_i32 : BitVec 32 := 1#32
  ⟨c0_i32_12, v15, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S131072x1 : Shape := ⟨2, ![131072, 1]⟩
abbrev S131072x64 : Shape := ⟨2, ![131072, 64]⟩
abbrev S64x131072 : Shape := ⟨2, ![64, 131072]⟩
abbrev S64x64 : Shape := ⟨2, ![64, 64]⟩
abbrev S64x1 : Shape := ⟨2, ![64, 1]⟩
abbrev S64x65 : Shape := ⟨2, ![64, 65]⟩
abbrev S_ : Shape := ⟨0, ![]⟩
abbrev S1x65 : Shape := ⟨2, ![1, 65]⟩
abbrev S1x1 : Shape := ⟨2, ![1, 1]⟩
abbrev S64 : Shape := ⟨1, ![64]⟩

abbrev nBuf : Space → Nat
  | .hbm => 75
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S131072x64, .f32⟩
  | .hbm, ⟨2, _⟩ => ⟨S64x131072, .f32⟩
  | .hbm, ⟨3, _⟩ => ⟨S64x64, .f32⟩
  | .hbm, ⟨4, _⟩ => ⟨S64x131072, .f32⟩
  | .hbm, ⟨5, _⟩ => ⟨S64x1, .f32⟩
  | .hbm, ⟨6, _⟩ => ⟨S64x65, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64x65, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i1⟩
  | .hbm, ⟨20, _⟩ => ⟨S_, .i32⟩
  | .hbm, ⟨21, _⟩ => ⟨S64x1, .f32⟩
  | .hbm, ⟨22, _⟩ => ⟨S64x1, .f32⟩
  | .hbm, ⟨23, _⟩ => ⟨S_, .f32⟩
  | .hbm, ⟨24, _⟩ => ⟨S_, .f32⟩
  | .hbm, ⟨25, _⟩ => ⟨S64x1, .f32⟩
  | .hbm, ⟨26, _⟩ => ⟨S64x1, .f32⟩
  | .hbm, ⟨27, _⟩ => ⟨S_, .f32⟩
  | .hbm, ⟨28, _⟩ => ⟨S_, .f32⟩
  | .hbm, ⟨29, _⟩ => ⟨S64x1, .f32⟩
  | .hbm, ⟨30, _⟩ => ⟨S64x1, .i1⟩
  | .hbm, ⟨31, _⟩ => ⟨S_, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x65, .f32⟩
  | .hbm, ⟨39, _⟩ => ⟨S_, .i32⟩
  | .hbm, ⟨40, _⟩ => ⟨S1x65, .f32⟩
  | .hbm, ⟨41, _⟩ => ⟨S_, .i32⟩
  | .hbm, ⟨42, _⟩ => ⟨S64x1, .i32⟩
  | .hbm, ⟨43, _⟩ => ⟨S64x1, .i1⟩
  | .hbm, ⟨44, _⟩ => ⟨S64x1, .i32⟩
  | .hbm, ⟨45, _⟩ => ⟨S64x1, .i1⟩
  | .hbm, ⟨46, _⟩ => ⟨S64x65, .i1⟩
  | .hbm, ⟨47, _⟩ => ⟨S64x65, .f32⟩
  | .hbm, ⟨48, _⟩ => ⟨S64x65, .f32⟩
  | .hbm, ⟨49, _⟩ => ⟨S64x65, .i1⟩
  | .hbm, ⟨50, _⟩ => ⟨S64x65, .f32⟩
  | .hbm, ⟨51, _⟩ => ⟨S64x65, .f32⟩
  | .hbm, ⟨52, _⟩ => ⟨S1x1, .f32⟩
  | .hbm, ⟨53, _⟩ => ⟨S1x65, .f32⟩
  | .hbm, ⟨54, _⟩ => ⟨S1x65, .f32⟩
  | .hbm, ⟨55, _⟩ => ⟨S_, .i32⟩
  | .hbm, ⟨56, _⟩ => ⟨S64x1, .i32⟩
  | .hbm, ⟨57, _⟩ => ⟨S64x1, .i1⟩
  | .hbm, ⟨58, _⟩ => ⟨S_, .i32⟩
  | .hbm, ⟨59, _⟩ => ⟨S64x1, .f32⟩
  | .hbm, ⟨60, _⟩ => ⟨S64x65, .f32⟩
  | .hbm, ⟨61, _⟩ => ⟨S64x65, .f32⟩
  | .hbm, ⟨62, _⟩ => ⟨S64x65, .f32⟩
  | .hbm, ⟨63, _⟩ => ⟨S64x65, .f32⟩
  | .hbm, ⟨64, _⟩ => ⟨S64x65, .i1⟩
  | .hbm, ⟨65, _⟩ => ⟨S64x65, .f32⟩
  | .hbm, ⟨66, _⟩ => ⟨S64x65, .f32⟩
  | .hbm, ⟨67, _⟩ => ⟨S_, .i32⟩
  | .hbm, ⟨68, _⟩ => ⟨S_, .i32⟩
  | .hbm, ⟨69, _⟩ => ⟨S64x1, .f32⟩
  | .hbm, ⟨70, _⟩ => ⟨S_, .i1⟩
  | .hbm, ⟨71, _⟩ => ⟨S64, .i1⟩
  | .hbm, ⟨72, _⟩ => ⟨S64x1, .i1⟩
  | .hbm, ⟨73, _⟩ => ⟨S64x1, .f32⟩
  | .hbm, ⟨74, _⟩ => ⟨S64x1, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_while0c_c_4 : Ref sig .tc := ⟨.hbm, 12, rfl⟩
abbrev main_while0c_v11 : Ref sig .tc := ⟨.hbm, 13, rfl⟩
abbrev main_while0b_c_4 : Ref sig .tc := ⟨.hbm, 14, rfl⟩
abbrev main_while0b_v11 : Ref sig .tc := ⟨.hbm, 15, rfl⟩
abbrev main_while0b_v12 : Ref sig .tc := ⟨.hbm, 16, rfl⟩
abbrev main_while0b_v13 : Ref sig .tc := ⟨.hbm, 17, rfl⟩
abbrev main_while0b_v14 : Ref sig .tc := ⟨.hbm, 18, rfl⟩
abbrev main_while0b_v15 : Ref sig .tc := ⟨.hbm, 19, rfl⟩
abbrev main_while0b_c_5 : Ref sig .tc := ⟨.hbm, 20, rfl⟩
abbrev main_while0b_v16 : Ref sig .tc := ⟨.hbm, 21, rfl⟩
abbrev main_while0b_v17 : Ref sig .tc := ⟨.hbm, 22, rfl⟩
abbrev main_while0b_cst : Ref sig .tc := ⟨.hbm, 23, rfl⟩
abbrev main_while0b_call0_v0 : Ref sig .tc := ⟨.hbm, 24, rfl⟩
abbrev main_while0b_call0_v1 : Ref sig .tc := ⟨.hbm, 25, rfl⟩
abbrev main_while0b_v18 : Ref sig .tc := ⟨.hbm, 26, rfl⟩
abbrev main_while0b_cst_6 : Ref sig .tc := ⟨.hbm, 27, rfl⟩
abbrev main_while0b_v19 : Ref sig .tc := ⟨.hbm, 28, rfl⟩
abbrev main_while0b_v20 : Ref sig .tc := ⟨.hbm, 29, rfl⟩
abbrev main_while0b_v21 : Ref sig .tc := ⟨.hbm, 30, rfl⟩
abbrev main_while0b_c_7 : Ref sig .tc := ⟨.hbm, 31, rfl⟩
abbrev main_while0b_call1_v0 : Ref sig .tc := ⟨.hbm, 32, rfl⟩
abbrev main_while0b_call1_v1 : Ref sig .tc := ⟨.hbm, 33, rfl⟩
abbrev main_while0b_v22 : Ref sig .tc := ⟨.hbm, 34, rfl⟩
abbrev main_while0b_c_8 : Ref sig .tc := ⟨.hbm, 35, rfl⟩
abbrev main_while0b_v23 : Ref sig .tc := ⟨.hbm, 36, rfl⟩
abbrev main_while0b_c_9 : Ref sig .tc := ⟨.hbm, 37, rfl⟩
abbrev main_while0b_v24 : Ref sig .tc := ⟨.hbm, 38, rfl⟩
abbrev main_while0b_c_10 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_v31 : Ref sig .tc := ⟨.hbm, 48, rfl⟩
abbrev main_while0b_call3_v0 : Ref sig .tc := ⟨.hbm, 49, rfl⟩
abbrev main_while0b_call3_v1 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_c_11 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_call4_v0 : Ref sig .tc := ⟨.hbm, 64, rfl⟩
abbrev main_while0b_call4_v1 : Ref sig .tc := ⟨.hbm, 65, rfl⟩
abbrev main_while0b_v44 : Ref sig .tc := ⟨.hbm, 66, rfl⟩
abbrev main_while0b_c_12 : Ref sig .tc := ⟨.hbm, 67, rfl⟩
abbrev main_while0b_v45 : Ref sig .tc := ⟨.hbm, 68, rfl⟩
abbrev main_v6 : Ref sig .tc := ⟨.hbm, 69, rfl⟩
abbrev main_c_1 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩

abbrev nD : Nat := 1
abbrev τ : Topo := Topo.v7x

variable {F : FTy → Type} [FloatOps F]

abbrev main_while0_count : Scf.Loop 32 := ⟨0#32, 64#32, 1#32⟩
-- ==== Proof.Elimination.lean ====
/-
  Elimination over the real numbers, on a square system `A x = b` of `n` equations.

  One Gauss–Jordan step at `k` divides row `k` by the pivot `A k k` and subtracts the right multiple of it from every other
  row. It keeps every solution, and with a nonzero pivot it makes no new one. After `n` steps with nonzero pivots the
  matrix is the identity, so the right-hand side is the solution.

  Two ways of taking the steps are compared here. Without row exchanges the pivots are what they are, and they must all be
  nonzero. With row exchanges a row at or below `k` is brought up first, and a nonzero pivot is found
  whenever the matrix is injective. Both end at the one solution.
-/
module

public import Mathlib.Data.Real.Basic
public import Mathlib.Algebra.BigOperators.Fin
public import Mathlib.Algebra.BigOperators.Field
public import Mathlib.LinearAlgebra.FiniteDimensional.Lemmas
public import Mathlib.LinearAlgebra.Matrix.ToLin
public import Mathlib.Logic.Equiv.Basic
public import Mathlib.Tactic.Ring
public import Mathlib.Tactic.Linarith
public import Mathlib.Tactic.Push

@[expose] public section

noncomputable section

namespace Cert.Elim

variable {n : ℕ}

/-- `x` solves the system `A x = b`. -/
def Solves (A : Fin n → Fin n → ℝ) (b x : Fin n → ℝ) : Prop := ∀ i, ∑ j, A i j * x j = b i

/-- The matrix after the Gauss–Jordan step at `k`. -/
def jordanA (k : Fin n) (A : Fin n → Fin n → ℝ) : Fin n → Fin n → ℝ := fun i j =>
  if i = k then A k j / A k k else A i j - A i k * (A k j / A k k)

/-- The right-hand side after the Gauss–Jordan step at `k`. -/
def jordanB (k : Fin n) (A : Fin n → Fin n → ℝ) (b : Fin n → ℝ) : Fin n → ℝ := fun i =>
  if i = k then b k / A k k else b i - A i k * (b k / A k k)

/-- Columns before `k` are columns of the identity matrix. -/
def Cleared (k : ℕ) (A : Fin n → Fin n → ℝ) : Prop := ∀ i j : Fin n, j.val < k → A i j = if i = j then 1 else 0

/-- The matrix kills no vector but zero. -/
def Injective (A : Fin n → Fin n → ℝ) : Prop := ∀ v, Solves A 0 v → v = 0

/-- A row of the stepped matrix, paired with a vector. -/
theorem sum_jordanA (k : Fin n) (A : Fin n → Fin n → ℝ) (x : Fin n → ℝ) (i : Fin n) :
    ∑ j, jordanA k A i j * x j
      = if i = k then (∑ j, A k j * x j) / A k k else (∑ j, A i j * x j) - A i k * ((∑ j, A k j * x j) / A k k) := by
  unfold jordanA
  split_ifs with h
  · rw [Finset.sum_div]
    exact Finset.sum_congr rfl fun j _ => by ring
  · rw [Finset.sum_div, Finset.mul_sum, ← Finset.sum_sub_distrib]
    exact Finset.sum_congr rfl fun j _ => by ring

/-- A Gauss–Jordan step keeps every solution, whatever the pivot. -/
theorem Solves.step {A : Fin n → Fin n → ℝ} {b x : Fin n → ℝ} (h : Solves A b x) (k : Fin n) :
    Solves (jordanA k A) (jordanB k A b) x := fun i => by
  rw [sum_jordanA, jordanB, h k, h i]

/-- A Gauss–Jordan step with a nonzero pivot makes no vector be killed that was not killed before. -/
theorem Solves.of_jordan {A : Fin n → Fin n → ℝ} {v : Fin n → ℝ} {k : Fin n} (hp : A k k ≠ 0)
    (h : Solves (jordanA k A) 0 v) : Solves A 0 v := by
  have hk : ∑ j, A k j * v j = 0 := by
    have := h k
    rw [sum_jordanA, if_pos rfl, Pi.zero_apply, div_eq_zero_iff] at this
    exact this.resolve_right hp
  intro i
  by_cases hi : i = k
  · rw [hi, hk, Pi.zero_apply]
  · have := h i
    rw [sum_jordanA, if_neg hi, hk] at this
    simpa using this

/-- A Gauss–Jordan step with a nonzero pivot keeps injectivity. -/
theorem Injective.step {A : Fin n → Fin n → ℝ} (h : Injective A) {k : Fin n} (hp : A k k ≠ 0) :
    Injective (jordanA k A) := fun v hv => h v (hv.of_jordan hp)

/-- With a nonzero pivot, the step at `k` makes column `k` a column of the identity and keeps those before it. -/
theorem Cleared.step {A : Fin n → Fin n → ℝ} {k : Fin n} (h : Cleared k.val A) (hp : A k k ≠ 0) :
    Cleared (k.val + 1) (jordanA k A) := by
  intro i j hj
  unfold jordanA
  rcases Nat.lt_succ_iff_lt_or_eq.mp hj with hlt | heq
  · have hkj : A k j = 0 := by
      rw [h k j hlt, if_neg]
      rintro rfl
      exact lt_irrefl _ hlt
    rw [hkj, zero_div, mul_zero, sub_zero, h i j hlt]
    split_ifs with hi hij hij
    · subst hi
      subst hij
      exact absurd hlt (lt_irrefl _)
    · rfl
    · rfl
    · rfl
  · obtain rfl : j = k := Fin.ext heq
    rw [div_self hp, mul_one, sub_self]

/-- A matrix whose columns are all those of the identity has its right-hand side for only solution. -/
theorem Cleared.solves_iff {A : Fin n → Fin n → ℝ} (h : Cleared n A) (b x : Fin n → ℝ) : Solves A b x ↔ x = b := by
  have hs : ∀ i, ∑ j, A i j * x j = x i := fun i => by
    rw [Finset.sum_congr rfl fun j _ => by rw [h i j j.isLt]]
    simp
  constructor
  · intro hx
    funext i
    rw [← hs i, hx i]
  · rintro rfl i
    exact hs i

/-- Every system with an injective matrix has a solution. -/
theorem Injective.exists_solves {A : Fin n → Fin n → ℝ} (h : Injective A) (b : Fin n → ℝ) : ∃ x, Solves A b x := by
  have hmul : ∀ v i, (Matrix.toLin' (Matrix.of A)) v i = ∑ j, A i j * v j := fun v i => rfl
  have hinj : Function.Injective (Matrix.toLin' (Matrix.of A)) := by
    rw [← LinearMap.ker_eq_bot, LinearMap.ker_eq_bot']
    intro v hv
    exact h v fun i => by rw [← hmul, hv]
  obtain ⟨x, hx⟩ := LinearMap.surjective_of_injective hinj b
  exact ⟨x, fun i => by rw [← hmul, hx]⟩

/-! ## Without row exchanges -/

/-- The system before step `k`, with no row exchanged. -/
def jordan (A : Fin n → Fin n → ℝ) (b : Fin n → ℝ) : ℕ → (Fin n → Fin n → ℝ) × (Fin n → ℝ)
  | 0 => (A, b)
  | k + 1 => if h : k < n then (jordanA ⟨k, h⟩ (jordan A b k).1, jordanB ⟨k, h⟩ (jordan A b k).1 (jordan A b k).2) else jordan A b k

theorem jordan_succ (A : Fin n → Fin n → ℝ) (b : Fin n → ℝ) (k : Fin n) :
    jordan A b (k.val + 1) = (jordanA k (jordan A b k.val).1, jordanB k (jordan A b k.val).1 (jordan A b k.val).2) :=
  dif_pos k.isLt

/-- The steps keep every solution. -/
theorem Solves.jordan_iter {A : Fin n → Fin n → ℝ} {b x : Fin n → ℝ} (h : Solves A b x) :
    ∀ k ≤ n, Solves (jordan A b k).1 (jordan A b k).2 x
  | 0, _ => h
  | k + 1, hk => by
    rw [jordan_succ A b ⟨k, hk⟩]
    exact (h.jordan_iter k (Nat.le_of_succ_le hk)).step ⟨k, hk⟩

/-- All pivots of the elimination without row exchanges are nonzero. -/
def Pivots (A : Fin n → Fin n → ℝ) (b : Fin n → ℝ) : Prop := ∀ k : Fin n, (jordan A b k.val).1 k k ≠ 0

/-- With nonzero pivots, columns before `k` are cleared before step `k`. -/
theorem Pivots.cleared {A : Fin n → Fin n → ℝ} {b : Fin n → ℝ} (h : Pivots A b) : ∀ k ≤ n, Cleared k (jordan A b k).1
  | 0, _ => fun _ _ hj => absurd hj (Nat.not_lt_zero _)
  | k + 1, hk => by
    rw [jordan_succ A b ⟨k, hk⟩]
    exact Cleared.step (k := ⟨k, hk⟩) (h.cleared k (Nat.le_of_succ_le hk)) (h ⟨k, hk⟩)

/-- With nonzero pivots, what a step kills the matrix killed at the start. -/
theorem Pivots.of_jordan {A : Fin n → Fin n → ℝ} {b v : Fin n → ℝ} (h : Pivots A b) :
    ∀ k ≤ n, Solves (jordan A b k).1 0 v → Solves A 0 v
  | 0, _, hv => hv
  | k + 1, hk, hv => by
    rw [jordan_succ A b ⟨k, hk⟩] at hv
    exact h.of_jordan k (Nat.le_of_succ_le hk) (hv.of_jordan (h ⟨k, hk⟩))

/-- The right-hand side does not enter the matrices. -/
theorem jordan_fst (A : Fin n → Fin n → ℝ) (b b' : Fin n → ℝ) : ∀ k, (jordan A b k).1 = (jordan A b' k).1
  | 0 => rfl
  | k + 1 => by
    unfold jordan
    split_ifs with h
    · show jordanA _ _ = jordanA _ _
      rw [jordan_fst A b b' k]
    · exact jordan_fst A b b' k

/-- A matrix with nonzero pivots is injective: a vector it kills is killed by every later matrix, and the last is the identity. -/
theorem Pivots.injective {A : Fin n → Fin n → ℝ} {b : Fin n → ℝ} (h : Pivots A b) : Injective A := by
  have h0 : Pivots A 0 := fun k => by rw [jordan_fst A 0 b]; exact h k
  intro v hv
  have hz : ∀ k, (jordan A 0 k).2 = 0 := by
    intro k
    induction k with
    | zero => rfl
    | succ k ih =>
      unfold jordan
      split_ifs with hk
      · funext i
        show jordanB _ _ _ i = 0
        rw [ih]
        unfold jordanB
        simp
      · exact ih
  have := hv.jordan_iter n le_rfl
  rw [(h0.cleared n le_rfl).solves_iff, hz] at this
  exact this

/-- The elimination without row exchanges ends at the solution. -/
theorem Pivots.result {A : Fin n → Fin n → ℝ} {b x : Fin n → ℝ} (h : Pivots A b) (hx : Solves A b x) :
    (jordan A b n).2 = x :=
  (((h.cleared n le_rfl).solves_iff _ _).mp (hx.jordan_iter n le_rfl)).symm

/-! ## With row exchanges -/

/-- The rows `k` and `p` of a column exchanged. -/
def exch {α : Type*} (k p : Fin n) (b : Fin n → α) : Fin n → α := fun i => if i = k then b p else if i = p then b k else b i

/-- Exchanging two rows is reading through the transposition. -/
theorem exch_eq {α : Type*} (k p : Fin n) (b : Fin n → α) (i : Fin n) : exch k p b i = b (Equiv.swap k p i) := by
  unfold exch
  split_ifs with h h'
  · rw [h, Equiv.swap_apply_left]
  · rw [h', Equiv.swap_apply_right]
  · rw [Equiv.swap_apply_of_ne_of_ne h h']

theorem Solves.swapped {A : Fin n → Fin n → ℝ} {b x : Fin n → ℝ} (h : Solves A b x) (k p : Fin n) :
    Solves (exch k p A) (exch k p b) x := fun i => by
  rw [exch_eq, exch_eq]
  exact h _

theorem Injective.swapped {A : Fin n → Fin n → ℝ} (h : Injective A) (k p : Fin n) : Injective (exch k p A) := by
  intro v hv
  refine h v fun i => ?_
  have := hv (Equiv.swap k p i)
  rw [exch_eq, Equiv.swap_apply_self] at this
  exact this

/-- Exchanging two rows at or below `k` keeps the cleared columns. -/
theorem Cleared.swapped {A : Fin n → Fin n → ℝ} {k p : Fin n} (h : Cleared k.val A) (hp : k ≤ p) : Cleared k.val (exch k p A) := by
  intro i j hj
  rw [exch_eq, h _ j hj]
  have hjk : j ≠ k := fun e => by rw [e] at hj; exact lt_irrefl _ hj
  have hjp : j ≠ p := fun e => by rw [e] at hj; exact absurd hj (not_lt.mpr hp)
  refine if_congr ?_ rfl rfl
  rw [Equiv.swap_apply_eq_iff, Equiv.swap_apply_of_ne_of_ne hjk hjp]

/-- An injective matrix whose columns before `k` are cleared has a nonzero entry in column `k`, at row `k` or below.
    Otherwise column `k` would be a combination of the cleared ones. -/
theorem Injective.exists_ne {A : Fin n → Fin n → ℝ} (h : Injective A) {k : Fin n} (hc : Cleared k.val A) :
    ∃ i, k ≤ i ∧ A i k ≠ 0 := by
  by_contra hno
  push Not at hno
  have hv := h (fun j => if j < k then -A j k else if j = k then 1 else 0) fun i => by
    have hterm : ∀ j, A i j * (if j < k then -A j k else if j = k then 1 else 0)
        = (if j = i then (if i < k then -A i k else 0) else 0) + (if j = k then A i k else 0) := fun j => by
      by_cases hj : j < k
      · rw [if_pos hj, if_neg (ne_of_lt hj), hc i j hj]
        by_cases hij : i = j
        · subst hij
          rw [if_pos rfl, if_pos rfl, if_pos hj]
          ring
        · rw [if_neg hij, if_neg (Ne.symm hij)]
          ring
      · rw [if_neg hj]
        have h1 : (if j = i then (if i < k then -A i k else 0) else 0) = (0 : ℝ) := by
          split_ifs with hji hik
          · subst hji
            exact absurd hik hj
          · rfl
          · rfl
        rw [h1]
        split_ifs with hjk
        · subst hjk
          ring
        · ring
    rw [Finset.sum_congr rfl fun j _ => hterm j, Finset.sum_add_distrib]
    simp only [Finset.sum_ite_eq', Finset.mem_univ, if_true, Pi.zero_apply]
    split_ifs with hik
    · ring
    · rw [hno i (not_lt.mp hik)]
      ring
  have := congrFun hv k
  simp at this

/-- One step with a row exchange: rows `k` and `p` exchanged, then the Gauss–Jordan step at `k`. -/
def pivotStep (k p : Fin n) (s : (Fin n → Fin n → ℝ) × (Fin n → ℝ)) : (Fin n → Fin n → ℝ) × (Fin n → ℝ) :=
  (jordanA k (exch k p s.1), jordanB k (exch k p s.1) (exch k p s.2))

/-- What holds of the system before step `k` of an elimination with row exchanges, started at an injective matrix. -/
structure Good (x : Fin n → ℝ) (k : ℕ) (s : (Fin n → Fin n → ℝ) × (Fin n → ℝ)) : Prop where
  inj : Injective s.1
  cleared : Cleared k s.1
  solves : Solves s.1 s.2 x

/-- A step whose pivot row is at or below `k`, and whose pivot is nonzero, keeps it. -/
theorem Good.step {x : Fin n → ℝ} {s : (Fin n → Fin n → ℝ) × (Fin n → ℝ)} {k : Fin n} (h : Good x k.val s) {p : Fin n} (hkp : k ≤ p)
    (hp : s.1 p k ≠ 0) : Good x (k.val + 1) (pivotStep k p s) := by
  have hpiv : exch k p s.1 k k ≠ 0 := by
    unfold exch
    rw [if_pos rfl]
    exact hp
  exact ⟨(h.inj.swapped k p).step hpiv, (h.cleared.swapped hkp).step hpiv, (h.solves.swapped k p).step k⟩

/-- After the last step the right-hand side is the solution. -/
theorem Good.result {x : Fin n → ℝ} {s : (Fin n → Fin n → ℝ) × (Fin n → ℝ)} (h : Good x n s) : s.2 = x :=
  ((h.cleared.solves_iff _ _).mp h.solves).symm

/-! ## The pivots, from the elimination that clears below the diagonal only -/

/-- The matrix after the step at `k` that clears column `k` below the diagonal. -/
def clearBelow (k : Fin n) (U : Fin n → Fin n → ℝ) : Fin n → Fin n → ℝ := fun i j =>
  U i j - (if k < i then U i k / U k k else 0) * U k j

/-- The matrix before step `k` of the elimination that clears below the diagonal only. -/
def below (A : Fin n → Fin n → ℝ) : ℕ → Fin n → Fin n → ℝ
  | 0 => A
  | k + 1 => if h : k < n then clearBelow ⟨k, h⟩ (below A k) else below A k

theorem below_succ (A : Fin n → Fin n → ℝ) (k : Fin n) : below A (k.val + 1) = clearBelow k (below A k.val) := dif_pos k.isLt

/-- Rows at and below `k` are the same in both eliminations before step `k`. -/
theorem below_eq_jordan (A : Fin n → Fin n → ℝ) (b : Fin n → ℝ) :
    ∀ k ≤ n, ∀ i : Fin n, k ≤ i.val → ∀ j, below A k i j = (jordan A b k).1 i j
  | 0, _, _, _, _ => rfl
  | k + 1, hk, i, hi, j => by
    have ih := below_eq_jordan A b k (Nat.le_of_succ_le hk)
    have hlt : (⟨k, hk⟩ : Fin n) < i := hi
    rw [below_succ A ⟨k, hk⟩, jordan_succ A b ⟨k, hk⟩]
    unfold clearBelow jordanA
    dsimp only
    rw [if_pos hlt, if_neg (ne_of_gt hlt), ih i (Nat.le_of_succ_le hi), ih i (Nat.le_of_succ_le hi), ih ⟨k, hk⟩ le_rfl, ih ⟨k, hk⟩ le_rfl]
    ring

/-- Nonzero pivots of the one elimination are nonzero pivots of the other. -/
theorem Pivots.of_below {A : Fin n → Fin n → ℝ} (b : Fin n → ℝ) (h : ∀ k : Fin n, below A k.val k k ≠ 0) : Pivots A b := fun k => by
  rw [← below_eq_jordan A b k.val k.isLt.le k le_rfl]
  exact h k

end Cert.Elim

end
-- ==== Proof.ExtReal.lean ====
/-
  Extended reals that are real numbers, and row and column masks.

  At the ideal instance a float is an extended real. Here: sums and quotients of real numbers are real numbers, and a
  comparison of two positions, used as a mask, picks by the positions.
-/
module

public import Idealize.ShloMosaic.PureOps.Ideal
public import Idealize.ShloMosaic.Lib.WordCmp
public import Idealize.ShloMosaic.Lib.Scf
public import Idealize.ShloMosaic.Lib.Pointwise

@[expose] public section

noncomputable section

namespace Cert.ExtReal

open Idealize.ShloMosaic

/-- A sum of real numbers, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers with a nonzero divisor, taken in the extended reals. -/
theorem div_coe_coe {b : ℝ} (hb : b ≠ 0) (a : ℝ) : Ideal.div (a : EReal) (b : EReal) = ((a / b : ℝ) : EReal) := by
  rw [Ideal.div_coe hb, ← EReal.coe_mul, mul_one_div]

/-- A mask that asks two positions to be equal. -/
theorem select_eq {α : Type} {n : ℕ} (hn : n ≤ 2 ^ 31) (a b : Fin n) (x y : α) :
    Scalar.select (IntOp.cmpi .eq (BitVec.ofNat 32 a.val) (BitVec.ofNat 32 b.val)) x y = if a = b then x else y := by
  have ha := a.isLt
  have hb := b.isLt
  rw [WordCmp.cmpi_eq_ofNat (by omega) (by omega), WordCmp.select_ofBool]
  simp only [decide_eq_true_eq, Fin.ext_iff]

/-- A mask that asks a position to be after another. -/
theorem select_gt {α : Type} {n : ℕ} (hn : n ≤ 2 ^ 31) (a b : Fin n) (x y : α) :
    Scalar.select (IntOp.cmpi .sgt (BitVec.ofNat 32 a.val) (BitVec.ofNat 32 b.val)) x y = if b < a then x else y := by
  have ha := a.isLt
  have hb := b.isLt
  rw [WordCmp.cmpi_sgt_ofNat (by omega) (by omega), WordCmp.select_ofBool]
  simp only [decide_eq_true_eq, Fin.lt_def]

/-- A mask that asks a position not to be before another. -/
theorem select_ge {α : Type} {n : ℕ} (hn : n ≤ 2 ^ 31) (a b : Fin n) (x y : α) :
    Scalar.select (IntOp.cmpi .sge (BitVec.ofNat 32 a.val) (BitVec.ofNat 32 b.val)) x y = if b ≤ a then x else y := by
  have ha := a.isLt
  have hb := b.isLt
  rw [WordCmp.cmpi_sge_ofNat (by omega) (by omega), WordCmp.select_ofBool]
  simp only [decide_eq_true_eq, Fin.le_def]

/-- The counter of a loop from zero by ones is the trip's number. -/
theorem iv_count (k : ℕ) : Scf.iv 0#32 1#32 k = BitVec.ofNat 32 k := by
  simp [Scf.iv]

/-- A sum masked to one position is the term there. -/
theorem sum_mask {n : ℕ} (hn : n ≤ 2 ^ 31) (k : Fin n) (f : Fin n → EReal) :
    ∑ x : Fin n, Scalar.select (IntOp.cmpi .eq (BitVec.ofNat 32 x.val) (BitVec.ofNat 32 k.val)) (f x) 0 = f k := by
  rw [Finset.sum_congr rfl fun x _ => select_eq hn x k (f x) 0]
  simp

end Cert.ExtReal

end
-- ==== Proof.KernelStep.lean ====
/-
  One trip of the kernel's elimination loop, read at an index.

  On a matrix and a right-hand side of real numbers, with a nonzero pivot, a trip is the Gauss–Jordan step of
  `Elimination`. The trip picks the row, the pivot and the column by sums masked to one position.
-/
module

public import proofs.«01_k».proof.Proof.Gen.KernelIdeal.Skeleton
public import proofs.«01_k».proof.Proof.Elimination
public import proofs.«01_k».proof.Proof.ExtReal

@[expose] public section

set_option maxRecDepth 16384

noncomputable section

namespace Cert.KernelStep

open Idealize.ShloMosaic Cert.KernelIdeal Cert.KernelIdeal.Gen Cert.Elim Cert.ExtReal
open Idealize.ShloMosaic.Pointwise

/-- The loop makes one trip per unknown. -/
theorem trips_eq : k0_t1_loop.trips = 64 := by decide

/-- A trip's number, as a row. -/
def row (k : Fin k0_t1_loop.trips) : Fin 64 := ⟨k.val, trips_eq ▸ k.isLt⟩

/-- The matrix block holds the real numbers `A`. -/
def HoldsA (a : Vec Ideal S64x64 .f32) (A : Fin 64 → Fin 64 → ℝ) : Prop := ∀ i j, a (ix2 i j) = ((A i j : ℝ) : EReal)

/-- The right-hand side's block holds the real numbers `B`. -/
def HoldsB (b : Vec Ideal S64x1 .f32) (B : Fin 64 → ℝ) : Prop := ∀ i, b (ix2 i 0) = ((B i : ℝ) : EReal)

theorem rowMask (k : Fin k0_t1_loop.trips) (i : Fin 64) :
    k0_pay7 k (ix2 i 0) = IntOp.cmpi .eq (BitVec.ofNat 32 i.val) (BitVec.ofNat 32 (row k).val) := by
  pointwise [k0_pay7]
  rw [iv_count]
  rfl

theorem colMask (k : Fin k0_t1_loop.trips) (j : Fin 64) :
    k0_pay8 k (ix2 0 j) = IntOp.cmpi .eq (BitVec.ofNat 32 j.val) (BitVec.ofNat 32 (row k).val) := by
  pointwise [k0_pay8]
  rw [iv_count]
  rfl

/-- The row that the trip picks. -/
theorem pivotRow (k : Fin k0_t1_loop.trips) (a : Vec Ideal S64x64 .f32) (j : Fin 64) :
    k0_pay9 (F := Ideal) k a (ix2 0 j) = a (ix2 (row k) j) := by
  pointwise [k0_pay9]
  rw [Finset.sum_congr rfl fun x _ => by rw [rowMask]]
  exact sum_mask (by norm_num) (row k) fun x => a (ix2 x j)

/-- One over the pivot. -/
theorem pivotInv (k : Fin k0_t1_loop.trips) (a : Vec Ideal S64x64 .f32) :
    k0_pay10 (F := Ideal) k a = Ideal.div 1 (a (ix2 (row k) (row k))) := by
  pointwise [k0_pay10]
  rw [Fin.sum_univ_one, Finset.sum_congr rfl fun x _ => by rw [colMask, pivotRow]]
  rw [sum_mask (by norm_num) (row k) fun x => a (ix2 (row k) x)]

/-- The column that the trip picks. -/
theorem pivotCol (k : Fin k0_t1_loop.trips) (a : Vec Ideal S64x64 .f32) (i : Fin 64) :
    k0_pay11 (F := Ideal) k a (ix2 i 0) = a (ix2 i (row k)) := by
  pointwise [k0_pay11]
  rw [Finset.sum_congr rfl fun x _ => by rw [colMask]]
  exact sum_mask (by norm_num) (row k) fun x => a (ix2 i x)

/-- A trip's matrix. -/
theorem stepA {k : Fin k0_t1_loop.trips} {a : Vec Ideal S64x64 .f32} {A : Fin 64 → Fin 64 → ℝ} (ha : HoldsA a A)
    (hp : A (row k) (row k) ≠ 0) : HoldsA (k0_pay12 (F := Ideal) k a) (jordanA (row k) A) := by
  intro i j
  pointwise [k0_pay12]
  rw [rowMask, pivotRow, pivotInv, pivotCol, select_eq (by norm_num), ha, ha, ha, ha, ← EReal.coe_one, div_coe_coe hp]
  unfold jordanA
  split_ifs with h
  · rw [← EReal.coe_mul]
    congr 1
    ring
  · rw [← EReal.coe_mul, ← EReal.coe_mul, ← EReal.coe_sub]
    congr 1
    ring

/-- A trip's right-hand side. -/
theorem stepB {k : Fin k0_t1_loop.trips} {a : Vec Ideal S64x64 .f32} {b : Vec Ideal S64x1 .f32} {A : Fin 64 → Fin 64 → ℝ}
    {B : Fin 64 → ℝ} (ha : HoldsA a A) (hb : HoldsB b B)
    (hp : A (row k) (row k) ≠ 0) : HoldsB (k0_pay13 (F := Ideal) k a b) (jordanB (row k) A B) := by
  intro i
  pointwise [k0_pay13]
  have hs : (∑ x : Fin 64, ∑ _y : Fin 1, Scalar.select (k0_pay7 k (ix2 x 0)) (b (ix2 x 0)) 0) = b (ix2 (row k) 0) := by
    rw [Finset.sum_congr rfl fun x _ => by rw [Fin.sum_univ_one, rowMask]]
    exact sum_mask (by norm_num) (row k) fun x => b (ix2 x 0)
  rw [hs, rowMask, pivotInv, pivotCol, select_eq (by norm_num), ha, ha, hb, hb, ← EReal.coe_one, div_coe_coe hp]
  unfold jordanB
  split_ifs with h
  · rw [← EReal.coe_mul]
    congr 1
    ring
  · rw [← EReal.coe_mul, ← EReal.coe_mul, ← EReal.coe_sub]
    congr 1
    ring

end Cert.KernelStep

end
-- ==== Proof.KernelPoints.lean ====
/-
  What each grid point of the kernel leaves behind, as payloads of the blocks it reads.

  The first point stores its block's products, every later point adds its block's products to what the point before left,
  and the last point then runs the elimination loop on the two sums and stores the right-hand side the loop ends with.
-/
module

public import proofs.«01_k».proof.Proof.Gen.KernelIdeal.Value
public import proofs.«01_k».proof.Proof.KernelStep

@[expose] public section

set_option maxRecDepth 16384

noncomputable section

namespace Cert.KernelPoints

open Cert.KernelIdeal Cert.KernelIdeal.Gen Idealize.ShloMosaic Idealize.ShloMosaic.TcCoe Idealize.SL.Sem

variable {F : FTy → Type} [FloatOps F]

theorem zero_off : (![0, 0] : Fin 2 → Nat) = fun _ => 0 := funext fun a => by fin_cases a <;> rfl

section
variable (c : Dev nD) (i : grid0.Coords) (a1 : Memref sig .tc .vmem S8192x1 .f32) (h1 : a1.IsWhole)
  (a2 : Memref sig .tc .vmem S8192x64 .f32) (h2 : a2.IsWhole) (a3 : Memref sig .tc .vmem S64x1 .f32) (h3 : a3.IsWhole)
  (a4 : Memref sig .tc .vmem S64x64 .f32) (h4 : a4.IsWhole) (a5 : Memref sig .tc .vmem S64x1 .f32) (h5 : a5.IsWhole)
  (td : Vec F S8192x1 .f32) (th : Vec F S8192x64 .f32) (g : Vec F S64x64 .f32) (r : Vec F S64x1 .f32)

/-- The first point's matrix: its block's products. -/
theorem first_gram (hc0 : cond0_0 i) (hc1 : ¬cond0_1 i) (hc2 : ¬cond0_2 i) :
    sout0_A_0 c i a1 h1 a2 h2 a3 h3 a4 h4 a5 h5 hc0 hc1 hc2 td th = k0_pay1 th := by
  unfold sout0_A_0
  rw [View.read_writes_eq_canon _ _ _ (scover0_A_0 c i a1 h1 a2 h2 a3 h3 a4 h4 a5 h5 hc0 hc1 hc2 td th)]
  unfold kernelRun0_A
  dsimp only
  rw [View.canon_unit_zero zero_off]
  unfold k0_pay3
  simp only [View.readAt_eq_ld, h2.read_unread, View.ld_unit_zero (S := S8192x64) zero_off, shapeCast_self]

/-- The first point's right-hand side: its block's products. -/
theorem first_rhs (hc0 : cond0_0 i) (hc1 : ¬cond0_1 i) (hc2 : ¬cond0_2 i) :
    sout0_A_1 c i a1 h1 a2 h2 a3 h3 a4 h4 a5 h5 hc0 hc1 hc2 td th = k0_pay2 th td := by
  unfold sout0_A_1
  rw [View.read_writes_eq_canon _ _ _ (scover0_A_1 c i a1 h1 a2 h2 a3 h3 a4 h4 a5 h5 hc0 hc1 hc2 td th)]
  unfold kernelRun0_A
  dsimp only
  rw [View.canon_unit_zero zero_off]
  unfold k0_pay4
  simp only [View.readAt_eq_ld, h1.read_unread, h2.read_unread, View.ld_unit_zero (S := S8192x64) zero_off, View.ld_unit_zero (S := S8192x1) zero_off, shapeCast_self]

/-- A middle point's matrix: its block's products added to what was there. -/
theorem middle_gram (hc0 : ¬cond0_0 i) (hc1 : cond0_1 i) (hc2 : ¬cond0_2 i) :
    sout0_B_0 c i a1 h1 a2 h2 a3 h3 a4 h4 a5 h5 hc0 hc1 hc2 td th g r = addf g (k0_pay1 th) := by
  unfold sout0_B_0
  rw [View.read_writes_eq_canon _ _ _ (scover0_B_0 c i a1 h1 a2 h2 a3 h3 a4 h4 a5 h5 hc0 hc1 hc2 td th g r)]
  unfold kernelRun0_B
  dsimp only
  rw [View.canon_unit_zero zero_off]
  unfold k0_pay5
  simp only [View.readAt_eq_ld, h2.read_unread, h4.read_unread, View.ld_unit_zero (S := S8192x64) zero_off, View.ld_unit_zero (S := S64x64) zero_off, shapeCast_self]

/-- A middle point's right-hand side: its block's products added to what was there. -/
theorem middle_rhs (hc0 : ¬cond0_0 i) (hc1 : cond0_1 i) (hc2 : ¬cond0_2 i) :
    sout0_B_1 c i a1 h1 a2 h2 a3 h3 a4 h4 a5 h5 hc0 hc1 hc2 td th g r = addf r (k0_pay2 th td) := by
  unfold sout0_B_1
  rw [View.read_writes_eq_canon _ _ _ (scover0_B_1 c i a1 h1 a2 h2 a3 h3 a4 h4 a5 h5 hc0 hc1 hc2 td th g r)]
  unfold kernelRun0_B
  dsimp only
  rw [View.canon_unit_zero zero_off]
  unfold k0_pay6
  simp only [View.readAt_eq_ld, h1.read_unread, h2.read_unread, h5.read_unread, View.ld_unit_zero (S := S8192x64) zero_off, View.ld_unit_zero (S := S8192x1) zero_off, View.ld_unit_zero (S := S64x1) zero_off, shapeCast_self]

/-- The last point's result: its block's products added to what was there, then the elimination loop. -/
theorem last_out (hc0 : ¬cond0_0 i) (hc1 : cond0_1 i) (hc2 : cond0_2 i) :
    out0_C_2 c i a1 h1 a2 h2 a3 h3 a4 h4 a5 h5 hc0 hc1 hc2 td th g r
      = (Scf.fold (fun (k : Fin k0_t1_loop.trips) s => (k0_pay12 k s.1, k0_pay13 k s.1 s.2)) (addf g (k0_pay1 th), addf r (k0_pay2 th td))).2 := by
  unfold out0_C_2
  rw [View.read_writes_eq_canon _ _ _ (cover0_C_2 c i a1 h1 a2 h2 a3 h3 a4 h4 a5 h5 hc0 hc1 hc2 td th g r)]
  unfold kernelRun0_C
  dsimp only
  sl_unfold_words
  rw [View.canon_unit_zero zero_off, View.readCov_unit_zero (S := S64x64) _ zero_off, View.readCov_unit_zero (S := S64x1) _ zero_off]
  unfold k0_pay5 k0_pay6
  simp only [View.readAt_eq_ld, h1.read_unread, h2.read_unread, h4.read_unread, h5.read_unread, View.ld_unit_zero (S := S8192x64) zero_off,
    View.ld_unit_zero (S := S8192x1) zero_off, View.ld_unit_zero (S := S64x64) zero_off, View.ld_unit_zero (S := S64x1) zero_off, shapeCast_self]

end

end Cert.KernelPoints

end
-- ==== Proof.KernelSums.lean ====
/-
  The kernel's two sums, over the whole arrays.

  Each grid point adds the products of its block of 8192 rows. After the last point the sums run over all 131072 rows:
  the Gram matrix and the right-hand side of the normal equations. The kernel's result is what the elimination loop makes
  of these two.
-/
module

public import proofs.«01_k».proof.Proof.KernelPoints

@[expose] public section

set_option maxRecDepth 16384

noncomputable section

namespace Cert.KernelSums

open Cert.KernelIdeal Cert.KernelIdeal.Gen Cert.KernelIdeal.Value Cert.KernelPoints
open Idealize.ShloMosaic Idealize.ShloMosaic.TcCoe Idealize.SL.Sem Idealize.ShloMosaic.Pointwise

/-- Row `r` of block `t` in the whole array. -/
def rowOf (t : ℕ) (r : Fin 8192) : Fin 131072 := ⟨(t * 8192 + r.val) % 131072, Nat.mod_lt _ (by decide)⟩

/-- One entry of the Gram matrix: the sum over all rows of the products of two columns. -/
def gram (th : S131072x64.Idx → EReal) (i j : Fin 64) : EReal := ∑ r : Fin 131072, th (ix2 r i) * th (ix2 r j)

/-- One entry of the right-hand side: the sum over all rows of the products of a column with the targets. -/
def rhs (td : S131072x1.Idx → EReal) (th : S131072x64.Idx → EReal) (i : Fin 64) : EReal := ∑ r : Fin 131072, th (ix2 r i) * td (ix2 r 0)

/-- Block `t`'s share of an entry of the Gram matrix. -/
def gramPart (th : S131072x64.Idx → EReal) (i j : Fin 64) (t : ℕ) : EReal := ∑ r : Fin 8192, th (ix2 (rowOf t r) i) * th (ix2 (rowOf t r) j)

/-- Block `t`'s share of an entry of the right-hand side. -/
def rhsPart (td : S131072x1.Idx → EReal) (th : S131072x64.Idx → EReal) (i : Fin 64) (t : ℕ) : EReal :=
  ∑ r : Fin 8192, th (ix2 (rowOf t r) i) * td (ix2 (rowOf t r) 0)

/-- A sum over all rows, block by block. -/
theorem sum_blocks (f : Fin 131072 → EReal) : ∑ t : Fin 16, ∑ r : Fin 8192, f (rowOf t.val r) = ∑ r : Fin 131072, f r := by
  rw [Fin.sum_univ_tiles 16 8192 (by decide) f]
  refine Finset.sum_congr rfl fun t _ => Finset.sum_congr rfl fun r _ => congrArg f (Fin.ext ?_)
  have ht := t.isLt
  have hr := r.isLt
  show (t.val * 8192 + r.val) % 131072 = t.val * 8192 + r.val
  exact Nat.mod_eq_of_lt (by omega)

theorem sum_gramPart (th : S131072x64.Idx → EReal) (i j : Fin 64) : ∑ t : Fin 16, gramPart th i j t.val = gram th i j :=
  sum_blocks fun r => th (ix2 r i) * th (ix2 r j)

theorem sum_rhsPart (td : S131072x1.Idx → EReal) (th : S131072x64.Idx → EReal) (i : Fin 64) : ∑ t : Fin 16, rhsPart td th i t.val = rhs td th i :=
  sum_blocks fun r => th (ix2 r i) * td (ix2 r 0)

variable (m : (ℓ : Loc nD τ sig) → Buf (Elt Ideal) ℓ)

/-- The targets, as the launch has them. -/
abbrev tdOf (c : Dev nD) : S131072x1.Idx → EReal := m ((c : Thread nD τ).loc main_arg0)

/-- The library terms, as the launch has them. -/
abbrev thOf (c : Dev nD) : S131072x64.Idx → EReal := m ((c : Thread nD τ).loc main_arg1)

theorem coord_val (t : Fin cfg0.N) : (grid0.coords t 0).val = t.val := by
  have e0 : (grid0.coords t 0).val = t.val / 1 % 16 := Pipeline.Grid.coords_val t 0 (by decide) rfl
  have ht : t.val < 16 := lt_of_lt_of_eq t.isLt N_0
  omega

/-- A point's block of targets. -/
theorem block_td (c : Dev nD) (t : Fin cfg0.N) (r : Fin 8192) :
    (iblk m c 0 t : Vec Ideal S8192x1 .f32) (ix2 r 0) = tdOf m c (ix2 (rowOf t.val r) 0) := by
  have hc := coord_val t
  have ht : t.val < 16 := lt_of_lt_of_eq t.isLt N_0
  have hr := r.isLt
  have hi : win0_0.index t 0 = t.val ∧ win0_0.index t 1 = 0 := by
    refine ⟨?_, rfl⟩
    show (BitVec.ofNat 32 (grid0.coords t 0).val).toNat = t.val
    rw [hc, BitVec.toNat_ofNat, Nat.mod_eq_of_lt (by omega)]
  unfold iblk
  rw [View.read_apply]
  show V m c main_arg0 _ = m (c.tc.loc main_arg0) _
  unfold V
  congr 1
  funext a
  apply Fin.ext
  match a with
  | ⟨0, _⟩ => show win0_0.index t 0 * 8192 + 1 * r.val = (t.val * 8192 + r.val) % 131072; rw [hi.1, Nat.mod_eq_of_lt (by omega)]; omega
  | ⟨1, _⟩ => show win0_0.index t 1 * 1 + 1 * 0 = 0; rw [hi.2]

/-- A point's block of library terms. -/
theorem block_th (c : Dev nD) (t : Fin cfg0.N) (r : Fin 8192) (j : Fin 64) :
    (iblk m c 1 t : Vec Ideal S8192x64 .f32) (ix2 r j) = thOf m c (ix2 (rowOf t.val r) j) := by
  have hc := coord_val t
  have ht : t.val < 16 := lt_of_lt_of_eq t.isLt N_0
  have hr := r.isLt
  have hi : win0_1.index t 0 = t.val ∧ win0_1.index t 1 = 0 := by
    refine ⟨?_, rfl⟩
    show (BitVec.ofNat 32 (grid0.coords t 0).val).toNat = t.val
    rw [hc, BitVec.toNat_ofNat, Nat.mod_eq_of_lt (by omega)]
  unfold iblk
  rw [View.read_apply]
  show V m c main_arg1 _ = m (c.tc.loc main_arg1) _
  unfold V
  congr 1
  funext a
  apply Fin.ext
  match a with
  | ⟨0, _⟩ => show win0_1.index t 0 * 8192 + 1 * r.val = (t.val * 8192 + r.val) % 131072; rw [hi.1, Nat.mod_eq_of_lt (by omega)]; omega
  | ⟨1, _⟩ => show win0_1.index t 1 * 64 + 1 * j.val = j.val; rw [hi.2]; omega

/-- A point's products for the Gram matrix. -/
theorem products_gram (c : Dev nD) (t : Fin cfg0.N) (i j : Fin 64) :
    k0_pay1 (F := Ideal) (iblk m c 1 t) (ix2 i j) = gramPart (thOf m c) i j t.val := by
  pointwise [k0_pay1]
  exact Finset.sum_congr rfl fun r _ => by rw [block_th, block_th]

/-- A point's products for the right-hand side. -/
theorem products_rhs (c : Dev nD) (t : Fin cfg0.N) (i : Fin 64) :
    k0_pay2 (F := Ideal) (iblk m c 1 t) (iblk m c 0 t) (ix2 i 0) = rhsPart (tdOf m c) (thOf m c) i t.val := by
  pointwise [k0_pay2]
  exact Finset.sum_congr rfl fun r _ => by rw [block_th, block_td]

/-- After point `n`, before the last one, the two sums run over the blocks up to `n`. -/
theorem sums_upto (c : Dev nD) : ∀ (n : ℕ) (hn : n < cfg0.N), n < 15 →
    (∀ i j, (outsAt0 m c n hn).2.1 (ix2 i j) = ∑ t : Fin (n + 1), gramPart (thOf m c) i j t.val)
    ∧ (∀ i, (outsAt0 m c n hn).2.2 (ix2 i 0) = ∑ t : Fin (n + 1), rhsPart (tdOf m c) (thOf m c) i t.val)
  | 0, hn, _ => by
    have h0 : (⟨0, hn⟩ : Fin cfg0.N).val % 16 = 0 := by dsimp only
    have h1 : ¬1 ≤ (⟨0, hn⟩ : Fin cfg0.N).val := by dsimp only; omega
    have h2 : ¬(⟨0, hn⟩ : Fin cfg0.N).val % 16 = 15 := by dsimp only; omega
    rw [outsAt0_zero m c hn, stAt0_A m c ⟨0, hn⟩ _ h0 h1 h2]
    dsimp only
    rw [first_gram, first_rhs]
    refine ⟨fun i j => ?_, fun i => ?_⟩
    · rw [products_gram, Fin.sum_univ_one]
      rfl
    · rw [products_rhs, Fin.sum_univ_one]
      rfl
  | n + 1, hn, h => by
    obtain ⟨ihg, ihr⟩ := sums_upto c n (Nat.lt_of_succ_lt hn) (by omega)
    have h0 : ¬(⟨n + 1, hn⟩ : Fin cfg0.N).val % 16 = 0 := by dsimp only; omega
    have h1 : 1 ≤ (⟨n + 1, hn⟩ : Fin cfg0.N).val := by dsimp only; omega
    have h2 : ¬(⟨n + 1, hn⟩ : Fin cfg0.N).val % 16 = 15 := by dsimp only; omega
    rw [outsAt0_succ m c n hn, stAt0_B m c ⟨n + 1, hn⟩ _ h0 h1 h2]
    dsimp only
    rw [middle_gram, middle_rhs]
    refine ⟨fun i j => ?_, fun i => ?_⟩
    · show (outsAt0 m c n _).2.1 (ix2 i j) + k0_pay1 (F := Ideal) (iblk m c 1 ⟨n + 1, hn⟩) (ix2 i j) = _
      rw [ihg, products_gram, Fin.sum_univ_castSucc (n := n + 1)]
      rfl
    · show (outsAt0 m c n _).2.2 (ix2 i 0) + k0_pay2 (F := Ideal) (iblk m c 1 ⟨n + 1, hn⟩) (iblk m c 0 ⟨n + 1, hn⟩) (ix2 i 0) = _
      rw [ihr, products_rhs, Fin.sum_univ_castSucc (n := n + 1)]
      rfl

/-- The kernel's result is what the elimination loop makes of the Gram matrix and the right-hand side. -/
theorem result_eq (c : Dev nD) : ∃ (g : Vec Ideal S64x64 .f32) (r : Vec Ideal S64x1 .f32),
    (∀ i j, g (ix2 i j) = gram (thOf m c) i j) ∧ (∀ i, r (ix2 i 0) = rhs (tdOf m c) (thOf m c) i)
    ∧ G2 m c = (Scf.fold (fun (k : Fin k0_t1_loop.trips) s => (k0_pay12 (F := Ideal) k s.1, k0_pay13 (F := Ideal) k s.1 s.2)) (g, r)).2 := by
  have hN : 15 < cfg0.N := lt_of_lt_of_eq (by decide) N_0.symm
  obtain ⟨ihg, ihr⟩ := sums_upto m c 14 (Nat.lt_of_succ_lt hN) (by decide)
  refine ⟨addf (outsAt0 m c 14 (Nat.lt_of_succ_lt hN)).2.1 (k0_pay1 (F := Ideal) (iblk m c 1 ⟨15, hN⟩)),
    addf (outsAt0 m c 14 (Nat.lt_of_succ_lt hN)).2.2 (k0_pay2 (F := Ideal) (iblk m c 1 ⟨15, hN⟩) (iblk m c 0 ⟨15, hN⟩)), fun i j => ?_, fun i => ?_, ?_⟩
  · show (outsAt0 m c 14 _).2.1 (ix2 i j) + k0_pay1 (F := Ideal) (iblk m c 1 ⟨15, hN⟩) (ix2 i j) = _
    rw [ihg, products_gram, ← sum_gramPart, Fin.sum_univ_castSucc (n := 15)]
    rfl
  · show (outsAt0 m c 14 _).2.2 (ix2 i 0) + k0_pay2 (F := Ideal) (iblk m c 1 ⟨15, hN⟩) (iblk m c 0 ⟨15, hN⟩) (ix2 i 0) = _
    rw [ihr, products_rhs, ← sum_rhsPart, Fin.sum_univ_castSucc (n := 15)]
    rfl
  · have h0 : ¬(⟨15, hN⟩ : Fin cfg0.N).val % 16 = 0 := by dsimp only; omega
    have h1 : 1 ≤ (⟨15, hN⟩ : Fin cfg0.N).val := by dsimp only; omega
    have h2 : (⟨15, hN⟩ : Fin cfg0.N).val % 16 = 15 := by dsimp only
    rw [G2_last, ← outsAt0_sweep m c 15 hN, outsAt0_succ m c 14 hN, stAt0_C m c ⟨15, hN⟩ _ h0 h1 h2]
    dsimp only
    rw [last_out]

end Cert.KernelSums

end
-- ==== Proof.KernelResult.lean ====
/-
  The kernel's result on real arguments.

  Where the arguments are real numbers and the elimination of the Gram matrix meets no zero pivot, the kernel's result
  solves the normal equations.
-/
module

public import proofs.«01_k».proof.Proof.KernelSums

@[expose] public section

set_option maxRecDepth 16384

noncomputable section

namespace Cert.KernelResult

open Cert.KernelIdeal Cert.KernelIdeal.Gen Cert.KernelIdeal.Value Cert.KernelStep Cert.KernelSums Cert.Elim Cert.ExtReal
open Idealize.ShloMosaic Idealize.ShloMosaic.TcCoe Idealize.SL.Sem Idealize.ShloMosaic.Pointwise

/-- The Gram matrix of real library terms. -/
def realGram (T : Fin 131072 → Fin 64 → ℝ) (i j : Fin 64) : ℝ := ∑ r, T r i * T r j

/-- The right-hand side of real library terms and targets. -/
def realRhs (T : Fin 131072 → Fin 64 → ℝ) (D : Fin 131072 → ℝ) (i : Fin 64) : ℝ := ∑ r, T r i * D r

theorem gram_coe {th : S131072x64.Idx → EReal} {T : Fin 131072 → Fin 64 → ℝ} (hT : ∀ r j, th (ix2 r j) = ((T r j : ℝ) : EReal)) (i j : Fin 64) :
    gram th i j = ((realGram T i j : ℝ) : EReal) := by
  unfold gram realGram
  rw [← sum_coe]
  exact Finset.sum_congr rfl fun r _ => by rw [hT, hT, EReal.coe_mul]

theorem rhs_coe {td : S131072x1.Idx → EReal} {th : S131072x64.Idx → EReal} {T : Fin 131072 → Fin 64 → ℝ} {D : Fin 131072 → ℝ}
    (hT : ∀ r j, th (ix2 r j) = ((T r j : ℝ) : EReal)) (hD : ∀ r, td (ix2 r 0) = ((D r : ℝ) : EReal)) (i : Fin 64) :
    rhs td th i = ((realRhs T D i : ℝ) : EReal) := by
  unfold rhs realRhs
  rw [← sum_coe]
  exact Finset.sum_congr rfl fun r _ => by rw [hT, hD, EReal.coe_mul]

/-- What holds before the first trip and is kept by each holds after a fold over the trips. -/
theorem foldl_keeps {α : Type*} : ∀ {n : ℕ} (f : α → Fin n → α) (init : α) (I : ℕ → α → Prop), I 0 init →
    (∀ (k : Fin n) s, I k.val s → I (k.val + 1) (f s k)) → I n ((List.finRange n).foldl f init)
  | 0, _, _, _, h0, _ => h0
  | n + 1, f, init, I, h0, hs => by
    rw [List.finRange_succ_last, List.foldl_append, List.foldl_map]
    exact hs (Fin.last n) _ (foldl_keeps (fun s k => f s k.castSucc) init I h0 fun k s h => hs k.castSucc s h)

/-- After `k` trips the loop holds the `k`-step Gauss–Jordan elimination. -/
theorem fold_holds {g : Vec Ideal S64x64 .f32} {r : Vec Ideal S64x1 .f32} {G : Fin 64 → Fin 64 → ℝ} {R : Fin 64 → ℝ}
    (hg : HoldsA g G) (hr : HoldsB r R) (hp : Pivots G R) :
    HoldsB (Scf.fold (fun (k : Fin k0_t1_loop.trips) s => (k0_pay12 (F := Ideal) k s.1, k0_pay13 (F := Ideal) k s.1 s.2)) (g, r)).2 (jordan G R 64).2 := by
  rw [Scf.fold_eq]
  have key := foldl_keeps (fun (s : Vec Ideal S64x64 .f32 × Vec Ideal S64x1 .f32) (k : Fin k0_t1_loop.trips) =>
      (k0_pay12 (F := Ideal) k s.1, k0_pay13 (F := Ideal) k s.1 s.2)) (g, r)
    (fun k s => HoldsA s.1 (jordan G R k).1 ∧ HoldsB s.2 (jordan G R k).2) ⟨hg, hr⟩ fun k s ih => by
      have e : jordan G R (k.val + 1) = _ := jordan_succ G R (row k)
      rw [e]
      exact ⟨stepA ih.1 (hp (row k)), stepB ih.1 ih.2 (hp (row k))⟩
  have h := key.2
  have e : (jordan G R k0_t1_loop.trips).2 = (jordan G R 64).2 := by rw [trips_eq]
  rw [← e]
  exact h

variable (m : (ℓ : Loc nD τ sig) → Buf (Elt Ideal) ℓ)

/-- The kernel's result is the solution of the normal equations. -/
theorem result {c : Dev nD} {T : Fin 131072 → Fin 64 → ℝ} {D : Fin 131072 → ℝ} (hT : ∀ r j, thOf m c (ix2 r j) = ((T r j : ℝ) : EReal))
    (hD : ∀ r, tdOf m c (ix2 r 0) = ((D r : ℝ) : EReal)) (hp : Pivots (realGram T) (realRhs T D)) {x : Fin 64 → ℝ}
    (hx : Solves (realGram T) (realRhs T D) x) (i : Fin 64) : G2 m c (ix2 i 0) = ((x i : ℝ) : EReal) := by
  obtain ⟨g, r, hg, hr, e⟩ := result_eq m c
  rw [e]
  have h := fold_holds (fun i j => (hg i j).trans (gram_coe hT i j)) (fun i => (hr i).trans (rhs_coe hT hD i)) hp i
  rw [hp.result hx] at h
  exact h

end Cert.KernelResult

end
-- ==== Proof.Picks.lean ====
/-
  Picking the largest entry and its first row.

  A reduction by maximum or by minimum of words gives one of the values it runs over, and bounds all of them. A dynamic
  slice whose block lies inside the operand reads the block.
-/
module

public import proofs.«01_k».proof.Proof.KernelResult
public import Idealize.ShloMosaic.PureOps.Reduce

@[expose] public section

noncomputable section

namespace Cert.Picks

open Idealize.ShloMosaic Idealize.ShloMosaic.Pointwise

/-- A fold by maximum is at least its initial value and every term, and is one of them. -/
theorem foldl_max {ι : Type} (f : ι → EReal) : ∀ (l : List ι) (init : EReal),
    init ≤ l.foldl (fun r i => max r (f i)) init ∧ (∀ i ∈ l, f i ≤ l.foldl (fun r i => max r (f i)) init)
    ∧ (l.foldl (fun r i => max r (f i)) init = init ∨ ∃ i ∈ l, l.foldl (fun r i => max r (f i)) init = f i)
  | [], _ => ⟨le_rfl, fun _ h => absurd h List.not_mem_nil, Or.inl rfl⟩
  | a :: l, init => by
    obtain ⟨h1, h2, h3⟩ := foldl_max f l (max init (f a))
    refine ⟨(le_max_left _ _).trans h1, fun i hi => ?_, ?_⟩
    · rcases List.mem_cons.mp hi with rfl | hi
      · exact (le_max_right _ _).trans h1
      · exact h2 i hi
    · rcases h3 with h3 | ⟨i, hi, h3⟩
      · rcases max_choice init (f a) with e | e
        · exact Or.inl (h3.trans e)
        · exact Or.inr ⟨a, List.mem_cons_self, h3.trans e⟩
      · exact Or.inr ⟨i, List.mem_cons_of_mem _ hi, h3⟩

/-- A fold by the signed minimum of words is at most its initial value and every term, and is one of them. -/
theorem foldl_min {ι : Type} (f : ι → BitVec 32) : ∀ (l : List ι) (init : BitVec 32),
    (l.foldl (fun r i => IntOp.minsi r (f i)) init).toInt ≤ init.toInt
    ∧ (∀ i ∈ l, (l.foldl (fun r i => IntOp.minsi r (f i)) init).toInt ≤ (f i).toInt)
    ∧ (l.foldl (fun r i => IntOp.minsi r (f i)) init = init ∨ ∃ i ∈ l, l.foldl (fun r i => IntOp.minsi r (f i)) init = f i)
  | [], _ => ⟨le_rfl, fun _ h => absurd h List.not_mem_nil, Or.inl rfl⟩
  | a :: l, init => by
    obtain ⟨h1, h2, h3⟩ := foldl_min f l (IntOp.minsi init (f a))
    have hl : (IntOp.minsi init (f a)).toInt ≤ init.toInt ∧ (IntOp.minsi init (f a)).toInt ≤ (f a).toInt
        ∧ (IntOp.minsi init (f a) = init ∨ IntOp.minsi init (f a) = f a) := by
      unfold IntOp.minsi
      by_cases h : init.slt (f a) = true
      · rw [if_pos h]
        rw [BitVec.slt_iff_toInt_lt] at h
        exact ⟨le_rfl, h.le, Or.inl rfl⟩
      · rw [if_neg h]
        rw [BitVec.slt_iff_toInt_lt, not_lt] at h
        exact ⟨h, le_rfl, Or.inr rfl⟩
    refine ⟨h1.trans hl.1, fun i hi => ?_, ?_⟩
    · rcases List.mem_cons.mp hi with rfl | hi
      · exact h1.trans hl.2.1
      · exact h2 i hi
    · rcases h3 with h3 | ⟨i, hi, h3⟩
      · rcases hl.2.2 with e | e
        · exact Or.inl (h3.trans e)
        · exact Or.inr ⟨a, List.mem_cons_self, h3.trans e⟩
      · exact Or.inr ⟨i, List.mem_cons_of_mem _ hi, h3⟩

variable {s t u : Shape} {axes : List (Fin s.rank)}

/-- Every index is among those that a reduction to a single value runs over. -/
theorem mem_fiber [Subsingleton t.Idx] (h : s.ReducesTo axes t) (j : t.Idx) (i : s.Idx) :
    i ∈ ((List.finRange s.numel).map s.rowMajor.symm).filter fun i => h.drop i = j := by
  rw [List.mem_filter]
  exact ⟨List.mem_map.2 ⟨s.rowMajor i, List.mem_finRange _, Equiv.symm_apply_apply _ _⟩, by simp [Subsingleton.elim (h.drop i) j]⟩

/-- The maximum of an array is at least every entry, and is an entry or the initial value. -/
theorem reduce_max [Subsingleton t.Idx] (x : s.Idx → EReal) (init : u.Idx → EReal) (h : s.ReducesTo axes t) (hu : 0 < u.numel) (j : t.Idx) :
    (∀ i, x i ≤ Host.reduce max x init h hu j)
    ∧ (Host.reduce max x init h hu j = init (Shape.Idx.first hu) ∨ ∃ i, Host.reduce max x init h hu j = x i) := by
  rw [Host.reduce_eq_foldl]
  obtain ⟨-, h2, h3⟩ := foldl_max x (((List.finRange s.numel).map s.rowMajor.symm).filter fun i => h.drop i = j) (init (Shape.Idx.first hu))
  exact ⟨fun i => h2 i (mem_fiber h j i), h3.imp_right fun ⟨i, _, e⟩ => ⟨i, e⟩⟩

/-- The signed minimum of an array of words is at most every entry, and is an entry or the initial value. -/
theorem reduce_min [Subsingleton t.Idx] (x : s.Idx → BitVec 32) (init : u.Idx → BitVec 32) (h : s.ReducesTo axes t) (hu : 0 < u.numel) (j : t.Idx) :
    (∀ i, (Host.reduce IntOp.minsi x init h hu j).toInt ≤ (x i).toInt)
    ∧ (Host.reduce IntOp.minsi x init h hu j = init (Shape.Idx.first hu) ∨ ∃ i, Host.reduce IntOp.minsi x init h hu j = x i) := by
  rw [Host.reduce_eq_foldl]
  obtain ⟨-, h2, h3⟩ := foldl_min x (((List.finRange s.numel).map s.rowMajor.symm).filter fun i => h.drop i = j) (init (Shape.Idx.first hu))
  exact ⟨fun i => h2 i (mem_fiber h j i), h3.imp_right fun ⟨i, _, e⟩ => ⟨i, e⟩⟩

/-- A block of a matrix that starts inside it at `(a, b)` and fits there, read at an index. -/
theorem slice_at {α : Type} {n0 n1 r0 r1 : ℕ} (x : (⟨2, ![n0, n1]⟩ : Shape).Idx → α) (start : Fin 2 → Int) (h : (⟨2, ![n0, n1]⟩ : Shape).Slices (fun _ => 0) ⟨2, ![r0, r1]⟩)
    {a b : ℕ} (ha : start 0 = a) (hb : start 1 = b) (i : Fin r0) (j : Fin r1) (hi : a + r0 ≤ n0) (hj : b + r1 ≤ n1) :
    Host.dynamicSlice ⟨2, ![r0, r1]⟩ x start h (ix2 i j) = x (ix2 ⟨a + i.val, by omega⟩ ⟨b + j.val, by omega⟩) := by
  rw [Host.dynamicSlice_apply]
  congr 1
  funext d
  apply Fin.ext
  match d with
  | ⟨0, _⟩ =>
    have e := Host.clampedStart_of_le h.1 start 0 a ha hi
    show Host.clampedStart _ _ h.1 start 0 + i.val = a + i.val
    rw [e]
  | ⟨1, _⟩ =>
    have e := Host.clampedStart_of_le h.1 start 1 b hb hj
    show Host.clampedStart _ _ h.1 start 1 + j.val = b + j.val
    rw [e]

/-- A small position, read back from its word. -/
theorem toInt_ofNat {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- Minus one. -/
theorem ofBits_neg_one : Ideal.ofBits .f32 0xBF800000#32 = ((-1 : ℝ) : EReal) := by
  simp [Ideal.ofBits, Ideal.ieee, -EReal.coe_mul, -EReal.coe_neg]; norm_num

/-- Minus infinity. -/
theorem ofBits_neg_inf : Ideal.ofBits .f32 0xFF800000#32 = ⊥ := by simp [Ideal.ofBits, Ideal.ieee]

/-- Infinity. -/
theorem ofBits_inf : Ideal.ofBits .f32 0x7F800000#32 = ⊤ := by simp [Ideal.ofBits, Ideal.ieee]

/-- The absolute value of a real number, taken in the extended reals. -/
theorem abs_coe (x : ℝ) : max (x : EReal) (-(x : EReal)) = ((|x| : ℝ) : EReal) := by
  rw [← EReal.coe_neg]
  exact (EReal.coe_strictMono.monotone.map_max (a := x) (b := -x)).symm

end Cert.Picks

end
-- ==== Proof.RefStep.lean ====
/-
  One step of the reference's elimination, read at an index.

  The step looks in the column for the entry of largest absolute value, at or below the diagonal, exchanges its row with
  the step's row, divides that row by the pivot and clears the column. On real numbers, with a nonzero entry at or below
  the diagonal, it is `pivotStep` of `Elimination` at some row with a nonzero entry.
-/
module

public import proofs.«01_k».proof.Proof.Gen.ReferenceIdeal.Run
public import proofs.«01_k».proof.Proof.Picks

@[expose] public section

set_option maxRecDepth 16384

noncomputable section

namespace Cert.RefStep

open Cert.ReferenceIdeal Cert.ReferenceIdeal.Gen Cert.ReferenceIdeal.Value Cert.Elim Cert.ExtReal Cert.Picks
open Idealize.ShloMosaic Idealize.ShloMosaic.TcCoe Idealize.SL.Sem Idealize.ShloMosaic.Pointwise

/-! ## The step's parts, as functions of the step's number and the matrix -/

/-- The number of every row. -/
def rows : IVec S64x1 32 := iotaInDim S64x1 32 0

/-- One column of the matrix. -/
def columnAt (k : IVec S_ 32) (M : FVec Ideal S64x65 .f32) : FVec Ideal S64x1 .f32 :=
  Host.dynamicSlice S64x1 M (fun d => ((![constantI S_ 32 0#32, k] : Fin 2 → IVec S_ 32) d (Shape.Idx.first h_S_)).toInt) sliceFits_S64x65_S64x1

/-- One diagonal entry of the matrix. -/
def diagonalAt (k : IVec S_ 32) (M : FVec Ideal S64x65 .f32) : FVec Ideal S1x1 .f32 :=
  Host.dynamicSlice S1x1 M (fun d => ((![k, k] : Fin 2 → IVec S_ 32) d (Shape.Idx.first h_S_)).toInt) sliceFits_S64x65_S1x1

/-- The column's absolute values at and below the diagonal, minus one above. -/
def magnitude (k : IVec S_ 32) (M : FVec Ideal S64x65 .f32) : FVec Ideal S64x1 .f32 :=
  select (cmpi .sge rows (broadcastInDim S64x1 ![] bcast_S_S64x1 k))
    (Host.absf (columnAt k M))
    (broadcastInDim S64x1 ![] bcast_S_S64x1 (constant S_ .f32 0xBF800000#32))

/-- The largest of these. -/
def largest (v : FVec Ideal S64x1 .f32) : FVec Ideal S_ .f32 :=
  Host.reduce FloatOps.maximumf v (constant S_ .f32 0xFF800000#32) reducesTo_S64x1_S_d0_1 h_S_

/-- The row number where the largest stands, 63 elsewhere. -/
def candidates (v : FVec Ideal S64x1 .f32) : IVec S64x1 32 :=
  select (cmpf .oeq v (broadcastInDim S64x1 ![] bcast_S_S64x1 (largest v))) rows (broadcastInDim S64x1 ![] bcast_S_S64x1 (constantI S_ 32 63#32))

/-- The first row that has the largest. -/
def firstRow (v : FVec Ideal S64x1 .f32) : IVec S_ 32 :=
  Host.reduce IntOp.minsi (candidates v) (constantI S_ 32 2147483647#32) reducesTo_S64x1_S_d0_1 h_S_

/-- One row of the matrix. -/
def rowAt (p : IVec S_ 32) (M : FVec Ideal S64x65 .f32) : FVec Ideal S1x65 .f32 :=
  Host.dynamicSlice S1x65 M (fun d => ((![p, constantI S_ 32 0#32] : Fin 2 → IVec S_ 32) d (Shape.Idx.first h_S_)).toInt) sliceFits_S64x65_S1x65

/-- The rows whose number is the given one. -/
def isRow (k : IVec S_ 32) : IVec S64x65 1 :=
  broadcastInDim S64x65 ![0, 1] bcast_S64x1_S64x65_0_1 (cmpi .eq rows (broadcastInDim S64x1 ![] bcast_S_S64x1 k))

/-- The matrix with two rows exchanged. -/
def exchanged (k p : IVec S_ 32) (M : FVec Ideal S64x65 .f32) : FVec Ideal S64x65 .f32 :=
  select (isRow k) (broadcastInDim S64x65 ![0, 1] bcast_S1x65_S64x65_0_1 (rowAt p M))
    (select (isRow p) (broadcastInDim S64x65 ![0, 1] bcast_S1x65_S64x65_0_1 (rowAt k M)) M)

/-- The pivot's row, divided by the pivot. -/
def unitRow (k p : IVec S_ 32) (M : FVec Ideal S64x65 .f32) : FVec Ideal S1x65 .f32 :=
  Host.divf (rowAt p M) (broadcastInDim S1x65 ![0, 1] bcast_S1x1_S1x65_0_1
    (diagonalAt k (exchanged k p M)))

/-- The matrix after the step, from the row that was picked. -/
def cleared (k p : IVec S_ 32) (M : FVec Ideal S64x65 .f32) : FVec Ideal S64x65 .f32 :=
  select (isRow k) (broadcastInDim S64x65 ![0, 1] bcast_S1x65_S64x65_0_1 (unitRow k p M))
    (subf (exchanged k p M) (mulf (broadcastInDim S64x65 ![0, 1] bcast_S64x1_S64x65_0_1
      (columnAt k (exchanged k p M)))
      (broadcastInDim S64x65 ![0, 1] bcast_S1x65_S64x65_0_1 (unitRow k p M))))

/-- What a step makes of the carried matrix. -/
theorem step_eq (V : Valuation τ sig (Elt Ideal)) (k : IVec S_ 32) (M : FVec Ideal S64x65 .f32)
    (hk : V (Proc.devRef .tc main_v5_1) = k) (hM : V (Proc.devRef .tc main_v5_2) = M) :
    step_main_v5_2 V = cleared k (firstRow (magnitude k M)) M := by
  subst hk hM
  rfl

/-! ## The parts at an index -/

/-- The word of a row's number. -/
def word (k : Fin 64) : IVec S_ 32 := fun _ => BitVec.ofNat 32 k.val

theorem rows_at (i : Fin 64) : rows (ix2 i 0) = BitVec.ofNat 32 i.val := by
  pointwise [rows]

theorem word_toInt (k : Fin 64) (d : S_.Idx) : (word k d).toInt = (k.val : ℤ) := by
  have := k.isLt
  exact toInt_ofNat (by omega)

/-- A real matrix with its right-hand side as last column. -/
def joined (s : (Fin 64 → Fin 64 → ℝ) × (Fin 64 → ℝ)) (i : Fin 64) (j : Fin 65) : ℝ := if h : j.val < 64 then s.1 i ⟨j.val, h⟩ else s.2 i

theorem joined_left (s : (Fin 64 → Fin 64 → ℝ) × (Fin 64 → ℝ)) (i j : Fin 64) (h : j.val < 65) : joined s i ⟨j.val, h⟩ = s.1 i j := dif_pos j.isLt

/-- The array holds the real matrix and its right-hand side. -/
def Holds (M : FVec Ideal S64x65 .f32) (s : (Fin 64 → Fin 64 → ℝ) × (Fin 64 → ℝ)) : Prop := ∀ i j, M (ix2 i j) = ((joined s i j : ℝ) : EReal)

variable {M : FVec Ideal S64x65 .f32} {s : (Fin 64 → Fin 64 → ℝ) × (Fin 64 → ℝ)}

theorem columnAt_at (N : FVec Ideal S64x65 .f32) (k i : Fin 64) : columnAt (word k) N (ix2 i 0) = N (ix2 i ⟨k.val, by omega⟩) := by
  have hk := k.isLt
  unfold columnAt
  rw [slice_at N _ _ (a := 0) (b := k.val) rfl (word_toInt k (Shape.Idx.first h_S_)) i 0 (by decide) (by omega)]
  congr 2
  exact Fin.ext (Nat.zero_add _)

theorem diagonalAt_at (N : FVec Ideal S64x65 .f32) (k : Fin 64) : diagonalAt (word k) N (ix2 0 0) = N (ix2 k ⟨k.val, by omega⟩) := by
  have hk := k.isLt
  unfold diagonalAt
  rw [slice_at N _ _ (a := k.val) (b := k.val) (word_toInt k (Shape.Idx.first h_S_)) (word_toInt k (Shape.Idx.first h_S_)) 0 0 (by omega) (by omega)]
  rfl

theorem rowAt_at (p : Fin 64) (j : Fin 65) : rowAt (word p) M (ix2 0 j) = M (ix2 p j) := by
  have hp := p.isLt
  unfold rowAt
  rw [slice_at M _ _ (a := p.val) (b := 0) (word_toInt p (Shape.Idx.first h_S_)) rfl 0 j (by omega) (by decide)]
  congr 2
  exact Fin.ext (Nat.zero_add _)

theorem magnitude_at (hM : Holds M s) (k i : Fin 64) :
    magnitude (word k) M (ix2 i 0) = (((if k ≤ i then |s.1 i k| else -1 : ℝ)) : EReal) := by
  pointwise [magnitude]
  rw [rows_at, columnAt_at, hM, joined_left, ofBits_neg_one, Ideal.absf_def, abs_coe]
  refine (select_ge (by norm_num) i k _ _).trans ?_
  split_ifs <;> rfl

theorem joined_exch (k p i : Fin 64) (j : Fin 65) :
    joined (exch k p s.1, exch k p s.2) i j = if i = k then joined s p j else if i = p then joined s k j else joined s i j := by
  unfold joined exch
  dsimp only
  split_ifs <;> rfl

theorem exchanged_at (hM : Holds M s) (k p : Fin 64) : Holds (exchanged (word k) (word p) M) (exch k p s.1, exch k p s.2) := fun i j => by
  pointwise [exchanged, isRow]
  rw [rows_at, rowAt_at, rowAt_at, hM, hM, hM, joined_exch]
  refine (select_eq (by norm_num) i k _ _).trans ?_
  rw [show word p ix0 = BitVec.ofNat 32 p.val from rfl, select_eq (by norm_num) i p]
  split_ifs <;> rfl

theorem unitRow_at (hM : Holds M s) (k p : Fin 64) (hp : s.1 p k ≠ 0) (j : Fin 65) :
    unitRow (word k) (word p) M (ix2 0 j) = ((joined s p j / s.1 p k : ℝ) : EReal) := by
  pointwise [unitRow]
  rw [rowAt_at, diagonalAt_at, hM, exchanged_at hM k p, joined_left]
  have e : (exch k p s.1, exch k p s.2).1 k k = s.1 p k := by
    unfold exch
    dsimp only
    rw [if_pos rfl]
  rw [e, div_coe_coe hp]

theorem cleared_at (hM : Holds M s) (k p : Fin 64) (hp : s.1 p k ≠ 0) : Holds (cleared (word k) (word p) M) (pivotStep k p s) := fun i j => by
  pointwise [cleared, isRow]
  rw [rows_at, columnAt_at, unitRow_at hM k p hp, exchanged_at hM k p, exchanged_at hM k p, joined_left, ← EReal.coe_mul, ← EReal.coe_sub]
  refine (select_eq (by norm_num) i k _ _).trans ?_
  have ek : exch k p s.1 k = s.1 p := by
    unfold exch
    rw [if_pos rfl]
  have eb : exch k p s.2 k = s.2 p := by
    unfold exch
    rw [if_pos rfl]
  unfold pivotStep joined jordanA jordanB
  dsimp only
  rw [ek, eb]
  split_ifs <;> rfl

/-! ## The row that the step picks -/

/-- The step picks a row at or below the diagonal, with a nonzero entry, where there is one. -/
theorem firstRow_spec (hM : Holds M s) (k : Fin 64) (hne : ∃ i, k ≤ i ∧ s.1 i k ≠ 0) :
    ∃ p : Fin 64, k ≤ p ∧ s.1 p k ≠ 0 ∧ firstRow (magnitude (word k) M) = word p := by
  have hidx : ∀ y : S64x1.Idx, ∃ i : Fin 64, y = ix2 i 0 := fun y => ⟨y 0, funext fun d => by
    match d with
    | ⟨0, _⟩ => rfl
    | ⟨1, _⟩ => exact Fin.ext (by have := (y 1).isLt; have h : S64x1.size 1 = 1 := rfl; show (y 1).val = 0; omega)⟩
  have hsub : Subsingleton S_.Idx := ⟨fun a b => funext fun d => d.elim0⟩
  set v := magnitude (word k) M with hv
  -- the largest is the value of some row, and bounds all
  obtain ⟨hle, hor⟩ := reduce_max v (constant (F := Ideal) S_ .f32 0xFF800000#32) reducesTo_S64x1_S_d0_1 h_S_ ix0
  have hL : largest v ix0 = Host.reduce max v (constant (F := Ideal) S_ .f32 0xFF800000#32) reducesTo_S64x1_S_d0_1 h_S_ ix0 := rfl
  rw [← hL] at hle hor
  -- a row whose value is the largest has a nonzero entry at or below the diagonal
  have hgood : ∀ i : Fin 64, v (ix2 i 0) = largest v ix0 → k ≤ i ∧ s.1 i k ≠ 0 := fun i hi => by
    obtain ⟨r, hkr, hr⟩ := hne
    have h := hle (ix2 r 0)
    rw [← hi, hv, magnitude_at hM, magnitude_at hM, if_pos hkr, EReal.coe_le_coe_iff] at h
    have hpos := abs_pos.mpr hr
    by_cases hki : k ≤ i
    · rw [if_pos hki] at h
      exact ⟨hki, abs_pos.mp (lt_of_lt_of_le hpos h)⟩
    · rw [if_neg hki] at h
      linarith
  have hmax : ∃ i : Fin 64, v (ix2 i 0) = largest v ix0 := by
    rcases hor with e | ⟨y, e⟩
    · exfalso
      have h := hle (ix2 k 0)
      rw [e, hv, magnitude_at hM] at h
      have hbot : constant (F := Ideal) S_ .f32 0xFF800000#32 (Shape.Idx.first h_S_) = ⊥ := ofBits_neg_inf
      rw [hbot, le_bot_iff] at h
      exact EReal.coe_ne_bot _ h
    · obtain ⟨i, rfl⟩ := hidx y
      exact ⟨i, e.symm⟩
  have hcand : ∀ i : Fin 64, candidates v (ix2 i 0) = if v (ix2 i 0) = largest v ix0 then BitVec.ofNat 32 i.val else 63#32 := fun i => by
    pointwise [candidates]
    rw [rows_at]
  obtain ⟨hmin, hmem⟩ := reduce_min (candidates v) (constantI S_ 32 2147483647#32) reducesTo_S64x1_S_d0_1 h_S_ ix0
  have hF : firstRow v ix0 = Host.reduce IntOp.minsi (candidates v) (constantI S_ 32 2147483647#32) reducesTo_S64x1_S_d0_1 h_S_ ix0 := rfl
  rw [← hF] at hmin hmem
  obtain ⟨r, hr⟩ := hmax
  have hr64 := r.isLt
  have hbound := hmin (ix2 r 0)
  rw [hcand, if_pos hr, toInt_ofNat (by omega)] at hbound
  have fin : ∃ p : Fin 64, v (ix2 p 0) = largest v ix0 ∧ firstRow v ix0 = BitVec.ofNat 32 p.val := by
    rcases hmem with e | ⟨y, e⟩
    · exfalso
      rw [e] at hbound
      have : ((2147483647#32 : BitVec 32)).toInt = 2147483647 := by decide
      have h' : (2147483647 : ℤ) ≤ r.val := this ▸ hbound
      omega
    · obtain ⟨i, rfl⟩ := hidx y
      rw [hcand] at e
      by_cases hi : v (ix2 i 0) = largest v ix0
      · rw [if_pos hi] at e
        exact ⟨i, hi, e⟩
      · rw [if_neg hi] at e
        rw [e] at hbound
        have : ((63#32 : BitVec 32)).toInt = 63 := by decide
        rw [this] at hbound
        exact ⟨r, hr, e.trans (by rw [show r.val = 63 by omega])⟩
  obtain ⟨p, hp, e⟩ := fin
  exact ⟨p, (hgood p hp).1, (hgood p hp).2, funext fun d => (congrArg _ (Subsingleton.elim d ix0)).trans e⟩

/-- A step keeps what holds of the system. -/
theorem step_good (hM : Holds M s) {x : Fin 64 → ℝ} {k : Fin 64} (hs : Good x k.val s) :
    ∃ s', Holds (cleared (word k) (firstRow (magnitude (word k) M)) M) s' ∧ Good x (k.val + 1) s' := by
  obtain ⟨p, hkp, hp, e⟩ := firstRow_spec hM k (hs.inj.exists_ne hs.cleared)
  rw [e]
  exact ⟨pivotStep k p s, cleared_at hM k p hp, hs.step hkp hp⟩

end Cert.RefStep

end
-- ==== Proof.RefResult.lean ====
/-
  The reference's result on real arguments.

  Where the arguments are real numbers and the Gram matrix takes no nonzero vector to zero, the reference's result is the
  solution of the normal equations.
-/
module

public import proofs.«01_k».proof.Proof.RefStep

@[expose] public section

set_option maxRecDepth 16384

noncomputable section

namespace Cert.RefResult

open Cert.ReferenceIdeal Cert.ReferenceIdeal.Gen Cert.ReferenceIdeal.Value Cert.RefStep Cert.KernelResult Cert.KernelSums Cert.Elim
open Idealize.ShloMosaic Idealize.ShloMosaic.StableHlo Idealize.ShloMosaic.TcCoe Idealize.SL.Sem Idealize.ShloMosaic.Pointwise

/-- The Gram matrix with the right-hand side as last column. -/
def system (td : FVec Ideal S131072x1 .f32) (th : FVec Ideal S131072x64 .f32) : FVec Ideal S64x65 .f32 :=
  concatenate S64x65 1
    [⟨S64x64, Host.dotGeneral dot_S64x131072_S131072x64_S64x64_1_0_0_1_n_n none (transpose S64x131072 [1, 0] th transposes_S131072x64_S64x131072_1_0) th⟩,
     ⟨S64x1, Host.dotGeneral dot_S64x131072_S131072x1_S64x1_1_0_0_1_n_n none (transpose S64x131072 [1, 0] th transposes_S131072x64_S64x131072_1_0) td⟩]
    concatenates_S64x64_S64x1_S64x65_d1

theorem system_at (td : FVec Ideal S131072x1 .f32) (th : FVec Ideal S131072x64 .f32) (i : Fin 64) (j : Fin 65) :
    system td th (ix2 i j) = if h : j.val < 64 then gram th i ⟨j.val, h⟩ else rhs td th i := by
  pointwise [system]
  by_cases h : j.val < 64
  · rw [dif_pos h, dif_pos h]
    rfl
  · rw [dif_neg h, dif_neg h]
    unfold rhs
    refine Finset.sum_congr rfl fun r _ => ?_
    congr 3
    exact Fin.ext (by dsimp only; omega)

variable (m : (ℓ : Loc nD τ sig) → Buf (Elt Ideal) ℓ)

/-- The targets, as the launch has them. -/
abbrev tdOf (c : Dev nD) : FVec Ideal S131072x1 .f32 := m ((c.tc : Thread nD τ).loc main_arg0)

/-- The library terms, as the launch has them. -/
abbrev thOf (c : Dev nD) : FVec Ideal S131072x64 .f32 := m ((c.tc : Thread nD τ).loc main_arg1)

/-- The loop starts at step zero. -/
theorem entry_ctr (c : Dev nD) : entryContents preI m c (Proc.devRef .tc main_v5_1) = constantI S_ 32 0#32 := by
  simp only [entryContents, afterL_cons, afterL_nil]
  after_reads_simp
  rfl

/-- The loop starts from the system of normal equations. -/
theorem entry_mat (c : Dev nD) : entryContents preI m c (Proc.devRef .tc main_v5_2) = system (tdOf m c) (thOf m c) := by
  simp only [entryContents, afterL_cons, afterL_nil]
  after_reads_simp
  rfl

/-- The system of real arguments. -/
theorem system_holds {td : FVec Ideal S131072x1 .f32} {th : FVec Ideal S131072x64 .f32} {T : Fin 131072 → Fin 64 → ℝ} {D : Fin 131072 → ℝ}
    (hT : ∀ r j, th (ix2 r j) = ((T r j : ℝ) : EReal)) (hD : ∀ r, td (ix2 r 0) = ((D r : ℝ) : EReal)) :
    Holds (system td th) (realGram T, realRhs T D) := fun i j => by
  rw [system_at]
  unfold joined
  dsimp only
  split_ifs with h
  · rw [gram_coe hT]
  · rw [rhs_coe hT hD]

/-- After `k` trips the carried matrix is a real system after `k` steps. -/
theorem trips {c : Dev nD} {s₀ : (Fin 64 → Fin 64 → ℝ) × (Fin 64 → ℝ)} (hM : Holds (system (tdOf m c) (thOf m c)) s₀) {x : Fin 64 → ℝ}
    (hs : Good x 0 s₀) : ∀ k ≤ 64, STEP^[k] (entryContents preI m c) (Proc.devRef .tc main_v5_1) = (fun _ => BitVec.ofNat 32 k)
      ∧ ∃ s, Holds (STEP^[k] (entryContents preI m c) (Proc.devRef .tc main_v5_2)) s ∧ Good x k s
  | 0, _ => ⟨entry_ctr m c, s₀, by rw [Function.iterate_zero, id_eq, entry_mat]; exact hM, hs⟩
  | k + 1, hk => by
    obtain ⟨hc, s, hMk, hg⟩ := trips hM hs k (Nat.le_of_succ_le hk)
    rw [Function.iterate_succ_apply']
    generalize STEP^[k] (entryContents preI m c) = W at hc hMk
    refine ⟨?_, ?_⟩
    · rw [STEP_main_v5_1]
      unfold step_main_v5_1
      rw [hc]
      funext d
      show BitVec.ofNat 32 k + 1#32 = BitVec.ofNat 32 (k + 1)
      rw [BitVec.ofNat_add]
    · rw [STEP_main_v5_2, step_eq W (word ⟨k, hk⟩) _ hc rfl]
      exact step_good hMk (k := ⟨k, hk⟩) hg

/-- The result at an index: the matrix's last column. -/
theorem out_at {W : Valuation τ sig (Elt Ideal)} {s : (Fin 64 → Fin 64 → ℝ) × (Fin 64 → ℝ)} (hM : Holds (W (Proc.devRef .tc main_v5_2)) s) (i : Fin 64) :
    (out_main_v10 W : FVec Ideal S64x1 .f32) (ix2 i 0) = ((s.2 i : ℝ) : EReal) := by
  unfold out_main_v10
  pointwise []
  have h1 : FloatOps.uitofp (F := Ideal) FTy.f32 1#1 = ((1 : ℝ) : EReal) := by
    show (((1#1 : BitVec 1).toNat : ℝ) : EReal) = ((1 : ℝ) : EReal)
    norm_num
  have h := hM i 64
  rw [h1, h, EReal.coe_one, mul_one]
  exact congrArg _ (dif_neg (by decide))

/-- What holds of the system before the first step. -/
theorem good_start {G : Fin 64 → Fin 64 → ℝ} {R x : Fin 64 → ℝ} (hinj : Injective G) (hx : Solves G R x) : Good x 0 (G, R) where
  inj := hinj
  cleared := fun _ j hj => absurd hj (Nat.not_lt_zero _)
  solves := hx

/-- The reference's result is the solution of the normal equations. -/
theorem result {c : Dev nD} {T : Fin 131072 → Fin 64 → ℝ} {D : Fin 131072 → ℝ} (hT : ∀ r j, thOf m c (ix2 r j) = ((T r j : ℝ) : EReal))
    (hD : ∀ r, tdOf m c (ix2 r 0) = ((D r : ℝ) : EReal)) (hinj : Injective (realGram T)) {x : Fin 64 → ℝ}
    (hx : Solves (realGram T) (realRhs T D) x) (i : Fin 64) :
    (out_main_v10 (STEP^[64] (entryContents preI m c)) : FVec Ideal S64x1 .f32) (ix2 i 0) = ((x i : ℝ) : EReal) := by
  have h0 : Holds (system (tdOf m c) (thOf m c)) (realGram T, realRhs T D) := system_holds hT hD
  have hg0 := good_start hinj hx
  obtain ⟨-, s, hM, hg⟩ := trips m h0 hg0 64 le_rfl
  rw [out_at hM, hg.result]

end Cert.RefResult

end
-- ==== Proof.Precondition.lean ====
/-
  What the precondition says.

  Where `positive_pivots` holds of the arguments, they are real numbers, and the elimination of the Gram matrix meets
  positive pivots only.
-/
module

public import proofs.«01_k».proof.Pre_positive_pivots
public import proofs.«01_k».proof.Proof.RefResult
public import Idealize.ShloMosaic.Lib.ReduceAll

@[expose] public section

set_option maxRecDepth 16384

noncomputable section

namespace Cert.Precondition

open Cert.Pre_positive_pivots Cert.Pre_positive_pivots.Facts Cert.KernelResult Cert.KernelSums Cert.Elim Cert.ExtReal Cert.Picks
open Idealize.ShloMosaic Idealize.ShloMosaic.Pointwise

variable [Facts]

/-- The word of a row's number. -/
def word (k : ℕ) : IVec S_ 32 := constantI S_ 32 (BitVec.ofNat 32 k)

/-- The matrix after `k` steps that clear below the diagonal, as the precondition computes it. -/
def stage (u : FVec Ideal S64x64 .f32) : ℕ → FVec Ideal S64x64 .f32 :=
  Nat.rec u fun k r => fn_clear_below (F := Ideal) r (word k)

/-- The Gram matrix, as the precondition computes it. -/
def gramOf (th : FVec Ideal S131072x64 .f32) : FVec Ideal S64x64 .f32 :=
  Host.dotGeneral dot_S64x131072_S131072x64_S64x64_1_0_0_1_n_n none (transpose S64x131072 [1, 0] th transposes_S131072x64_S64x131072_1_0) th

/-- All entries are finite. -/
def finiteTd (td : FVec Ideal S131072x1 .f32) : IVec S_ 1 :=
  Host.reduce IntOp.andi (cmpf .olt (Host.absf td) (broadcastInDim S131072x1 ![] bcast_S_S131072x1 (constant S_ .f32 0x7F800000#32)))
    (constantI S_ 1 1#1) reducesTo_S131072x1_S_d0_1 h_S_

/-- All entries are finite. -/
def finiteTh (th : FVec Ideal S131072x64 .f32) : IVec S_ 1 :=
  Host.reduce IntOp.andi (cmpf .olt (Host.absf th) (broadcastInDim S131072x64 ![] bcast_S_S131072x64 (constant S_ .f32 0x7F800000#32)))
    (constantI S_ 1 1#1) reducesTo_S131072x64_S_d0_1 h_S_

/-- All diagonal entries are positive. -/
def positive (u : FVec Ideal S64x64 .f32) : IVec S_ 1 :=
  Host.reduce IntOp.andi (ori (cmpi .ne (iotaInDim S64x64 32 0) (iotaInDim S64x64 32 1))
    (cmpf .ogt u (broadcastInDim S64x64 ![] bcast_S_S64x64 (constant S_ .f32 0x00000000#32)))) (constantI S_ 1 1#1) reducesTo_S64x64_S_d0_1 h_S_

/-- The precondition, in these parts. -/
theorem fn_eq (td : FVec Ideal S131072x1 .f32) (th : FVec Ideal S131072x64 .f32) :
    fn (F := Ideal) td th = andi (andi (finiteTd td) (finiteTh th)) (positive (stage (gramOf th) 63)) := rfl

theorem and_eq_one : ∀ a b : BitVec 1, IntOp.andi a b = 1#1 → a = 1#1 ∧ b = 1#1 := by decide

theorem or_zero_eq_one : ∀ a : BitVec 1, IntOp.ori 0#1 a = 1#1 → a = 1#1 := by decide

theorem ofBool_eq_one : ∀ b : Bool, BitVec.ofBool b = 1#1 → b = true := by decide

/-- An extended real of finite absolute value is a real number. -/
theorem real_of_finite {x : EReal} (h : Ideal.cmp .olt (max x (-x)) ⊤ = 1#1) : ∃ r : ℝ, x = (r : EReal) := by
  have h' : max x (-x) < ⊤ := of_decide_eq_true (ofBool_eq_one _ h)
  have h1 : x ≠ ⊤ := fun e => by rw [e] at h'; exact absurd h' (by simp)
  have h2 : x ≠ ⊥ := fun e => by rw [e] at h'; exact absurd h' (by simp)
  exact ⟨x.toReal, (EReal.coe_toReal h1 h2).symm⟩

instance : Subsingleton S_.Idx := ⟨fun a b => funext fun d => d.elim0⟩

theorem real_td {td : FVec Ideal S131072x1 .f32} (h : finiteTd td ix0 = 1#1) (r : Fin 131072) : ∃ x : ℝ, td (ix2 r 0) = (x : EReal) := by
  have e := Host.reduce_andi_all _ _ _ _ _ h (ix2 r 0)
  refine real_of_finite ?_
  rw [← ofBits_inf]
  exact e

theorem real_th {th : FVec Ideal S131072x64 .f32} (h : finiteTh th ix0 = 1#1) (r : Fin 131072) (j : Fin 64) :
    ∃ x : ℝ, th (ix2 r j) = (x : EReal) := by
  have e := Host.reduce_andi_all _ _ _ _ _ h (ix2 r j)
  refine real_of_finite ?_
  rw [← ofBits_inf]
  exact e

theorem pos_diag {u : FVec Ideal S64x64 .f32} (h : positive u ix0 = 1#1) (k : Fin 64) : 0 < u (ix2 k k) := by
  have e := Host.reduce_andi_all _ _ _ _ _ h (ix2 k k)
  revert e
  pointwise []
  intro e
  have hz : IntOp.cmpi .ne (BitVec.ofNat 32 k.val) (BitVec.ofNat 32 k.val) = 0#1 := by simp [IntOp.cmpi]
  rw [hz] at e
  exact of_decide_eq_true (ofBool_eq_one _ (or_zero_eq_one _ e))

theorem gramOf_at (th : FVec Ideal S131072x64 .f32) (i j : Fin 64) : gramOf th (ix2 i j) = gram th i j := by
  pointwise [gramOf]
  rfl

/-! ## The elimination -/

/-- One column of the matrix. -/
def columnAt (k : IVec S_ 32) (u : FVec Ideal S64x64 .f32) : FVec Ideal S64x1 .f32 :=
  Host.dynamicSlice S64x1 u (fun d => ((![constantI S_ 32 0#32, k] : Fin 2 → IVec S_ 32) d (Shape.Idx.first h_S_)).toInt) sliceFits_S64x64_S64x1

/-- One row of the matrix. -/
def rowAt (k : IVec S_ 32) (u : FVec Ideal S64x64 .f32) : FVec Ideal S1x64 .f32 :=
  Host.dynamicSlice S1x64 u (fun d => ((![k, constantI S_ 32 0#32] : Fin 2 → IVec S_ 32) d (Shape.Idx.first h_S_)).toInt) sliceFits_S64x64_S1x64

/-- One diagonal entry of the matrix. -/
def diagonalAt (k : IVec S_ 32) (u : FVec Ideal S64x64 .f32) : FVec Ideal S1x1 .f32 :=
  Host.dynamicSlice S1x1 u (fun d => ((![k, k] : Fin 2 → IVec S_ 32) d (Shape.Idx.first h_S_)).toInt) sliceFits_S64x64_S1x1

theorem clear_eq (u : FVec Ideal S64x64 .f32) (k : IVec S_ 32) :
    fn_clear_below (F := Ideal) u k = subf u (mulf (broadcastInDim S64x64 ![0, 1] bcast_S64x1_S64x64_0_1
      (select (cmpi .sgt (iotaInDim S64x1 32 0) (broadcastInDim S64x1 ![] bcast_S_S64x1 k))
        (Host.divf (columnAt k u) (broadcastInDim S64x1 ![0, 1] bcast_S1x1_S64x1_0_1 (diagonalAt k u)))
        (broadcastInDim S64x1 ![] bcast_S_S64x1 (constant S_ .f32 0x00000000#32))))
      (broadcastInDim S64x64 ![0, 1] bcast_S1x64_S64x64_0_1 (rowAt k u))) := rfl

theorem word_toInt (k : Fin 64) (d : S_.Idx) : (word k.val d).toInt = (k.val : ℤ) := by
  have := k.isLt
  exact toInt_ofNat (by omega)

theorem columnAt_at (u : FVec Ideal S64x64 .f32) (k i : Fin 64) : columnAt (word k.val) u (ix2 i 0) = u (ix2 i k) := by
  have hk := k.isLt
  unfold columnAt
  rw [slice_at u _ _ (a := 0) (b := k.val) rfl (word_toInt k (Shape.Idx.first h_S_)) i 0 (by decide) (by omega)]
  congr 2
  exact Fin.ext (Nat.zero_add _)

theorem rowAt_at (u : FVec Ideal S64x64 .f32) (k j : Fin 64) : rowAt (word k.val) u (ix2 0 j) = u (ix2 k j) := by
  have hk := k.isLt
  unfold rowAt
  rw [slice_at u _ _ (a := k.val) (b := 0) (word_toInt k (Shape.Idx.first h_S_)) rfl 0 j (by omega) (by decide)]
  congr 2
  exact Fin.ext (Nat.zero_add _)

theorem diagonalAt_at (u : FVec Ideal S64x64 .f32) (k : Fin 64) : diagonalAt (word k.val) u (ix2 0 0) = u (ix2 k k) := by
  have hk := k.isLt
  unfold diagonalAt
  rw [slice_at u _ _ (a := k.val) (b := k.val) (word_toInt k (Shape.Idx.first h_S_)) (word_toInt k (Shape.Idx.first h_S_)) 0 0 (by omega) (by omega)]
  rfl

/-- One step of the precondition's elimination at an index. -/
theorem clear_at (u : FVec Ideal S64x64 .f32) (k i j : Fin 64) :
    fn_clear_below (F := Ideal) u (word k.val) (ix2 i j)
      = u (ix2 i j) - (if k < i then Ideal.div (u (ix2 i k)) (u (ix2 k k)) else 0) * u (ix2 k j) := by
  rw [clear_eq]
  pointwise []
  rw [columnAt_at, rowAt_at, diagonalAt_at]
  refine congrArg (u (ix2 i j) - ·) ((select_gt (by norm_num) i k _ _).trans ?_)
  split_ifs
  · rfl
  · rw [zero_mul]

/-- A step leaves the rows down to its own as they were. -/
theorem clear_above (u : FVec Ideal S64x64 .f32) (k : Fin 64) {i : Fin 64} (h : i ≤ k) (j : Fin 64) :
    fn_clear_below (F := Ideal) u (word k.val) (ix2 i j) = u (ix2 i j) := by
  rw [clear_at, if_neg (not_lt.mpr h), zero_mul, sub_zero]

/-- So the pivot of step `k` is still there at the end. -/
theorem stage_diag (u : FVec Ideal S64x64 .f32) (k : Fin 64) : ∀ n, k.val + n ≤ 64 → stage u (k.val + n) (ix2 k k) = stage u k.val (ix2 k k)
  | 0, _ => rfl
  | n + 1, h => by
    have hlt : k.val + n < 64 := by omega
    exact (clear_above (stage u (k.val + n)) ⟨k.val + n, hlt⟩ (Fin.le_def.mpr (Nat.le_add_right _ _)) k).trans (stage_diag u k n (by omega))

/-- With positive entries on the final diagonal every stage is the real elimination's. -/
theorem stage_real {u : FVec Ideal S64x64 .f32} {G : Fin 64 → Fin 64 → ℝ} (hu : ∀ i j, u (ix2 i j) = ((G i j : ℝ) : EReal))
    (hp : ∀ k, 0 < stage u 63 (ix2 k k)) : ∀ k ≤ 63, ∀ i j, stage u k (ix2 i j) = ((below G k i j : ℝ) : EReal)
  | 0, _, i, j => hu i j
  | k + 1, hk, i, j => by
    have ih := stage_real hu hp k (by omega)
    have hlt : k < 64 := by omega
    have hpos : 0 < stage u k (ix2 ⟨k, hlt⟩ ⟨k, hlt⟩) := by
      have e := stage_diag u ⟨k, hlt⟩ (63 - k) (by dsimp only; omega)
      dsimp only at e
      rw [show k + (63 - k) = 63 by omega] at e
      rw [← e]
      exact hp _
    rw [ih, EReal.coe_pos] at hpos
    refine (clear_at (stage u k) ⟨k, hlt⟩ i j).trans ?_
    rw [below_succ G ⟨k, hlt⟩, ih, ih, ih, ih, div_coe_coe hpos.ne']
    unfold clearBelow
    split_ifs
    · rw [← EReal.coe_mul, ← EReal.coe_sub]
    · rw [zero_mul, zero_mul, sub_zero, sub_zero]

/-- So every pivot is positive. -/
theorem pivots_of_positive {u : FVec Ideal S64x64 .f32} {G : Fin 64 → Fin 64 → ℝ} (R : Fin 64 → ℝ)
    (hu : ∀ i j, u (ix2 i j) = ((G i j : ℝ) : EReal)) (hp : ∀ k, 0 < stage u 63 (ix2 k k)) : Pivots G R :=
  Pivots.of_below R fun k => by
    have hk := k.isLt
    have e := stage_diag u k (63 - k.val) (by omega)
    rw [show k.val + (63 - k.val) = 63 by omega] at e
    have h := hp k
    rw [e, stage_real hu hp k.val (by omega), EReal.coe_pos] at h
    exact h.ne'

/-- What the precondition gives: the arguments are real, and the elimination of the Gram matrix meets no zero pivot. -/
theorem spec {td : FVec Ideal S131072x1 .f32} {th : FVec Ideal S131072x64 .f32} (h : fn (F := Ideal) td th = fun _ => 1#1) :
    ∃ (T : Fin 131072 → Fin 64 → ℝ) (D : Fin 131072 → ℝ), (∀ r j, th (ix2 r j) = ((T r j : ℝ) : EReal))
      ∧ (∀ r, td (ix2 r 0) = ((D r : ℝ) : EReal)) ∧ Pivots (realGram T) (realRhs T D) := by
  rw [fn_eq] at h
  obtain ⟨h1, h2⟩ := and_eq_one _ _ (congrFun h ix0)
  obtain ⟨h3, h4⟩ := and_eq_one _ _ h1
  choose D hD using real_td h3
  choose T hT using real_th h4
  refine ⟨T, D, hT, hD, pivots_of_positive (u := gramOf th) (realRhs T D) (fun i j => ?_) (pos_diag h2)⟩
  rw [gramOf_at, gram_coe hT]

end Cert.Precondition

end
-- ==== Proof.PreFacts.lean ====
/-
  The shape facts of the precondition.

  The text of `positive_pivots` is stated over facts about its shapes. Each is decided here.
-/
module

public import proofs.«01_k».proof.Proof.Precondition

@[expose] public section

set_option maxRecDepth 16384

noncomputable section

namespace Cert.PreFacts

open Cert.Pre_positive_pivots
open Idealize.ShloMosaic

/-- Every fact about shapes that the precondition states. -/
instance facts : Cert.Pre_positive_pivots.Facts where
  transposes_S131072x64_S64x131072_1_0 := by decide
  bcast_S_S64x1 := by decide
  sliceFits_S64x64_S64x1 := by decide
  h_S_ := by decide
  sliceFits_S64x64_S1x1 := by decide
  bcast_S1x1_S64x1_0_1 := by decide
  sliceFits_S64x64_S1x64 := by decide
  bcast_S64x1_S64x64_0_1 := by decide
  bcast_S1x64_S64x64_0_1 := by decide
  bcast_S_S131072x1 := by decide
  reducesTo_S131072x1_S_d0_1 := by decide
  bcast_S_S131072x64 := by decide
  reducesTo_S131072x64_S_d0_1 := by decide
  bcast_S_S64x64 := by decide
  reducesTo_S64x64_S_d0_1 := by decide
  dot_S64x131072_S131072x64_S64x64_1_0_0_1_n_n_wf := by decide

end Cert.PreFacts

end
-- ==== Proof.lean ====
/-
  The proof of `Cert.Claim`.

  The frames of the kernel, at both instances, are the generated ones. The reference runs by its generated module, and
  it declares no semaphore. For the value claim the arguments are, by the precondition, a real matrix and a real vector
  whose normal equations have positive pivots. So they have exactly one solution, and both programs end with it.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.PreFacts
public import Idealize.ShloMosaic.Lib.Quiescent

@[expose] public section

set_option maxRecDepth 16384

noncomputable section

namespace Cert.Proof

open Idealize.ShloMosaic Idealize.SL.Sem Idealize.ShloMosaic.Pointwise

/-- The reference runs, keeps its arguments and ends with every counter at zero. -/
theorem reference_quiescent : Cert.quiescent_ReferenceIdeal (hReferenceIdeal := Cert.ReferenceIdeal.Gen.facts) :=
  fun m g _ => (θ_run Cert.ReferenceIdeal.defs _ _).mono
    (fun r h => ⟨fun c => ⟨(h c).2.1, (h c).2.2⟩, sem_eq_zero_of_no_sems rfl r.2⟩) (Cert.ReferenceIdeal.Value.run m g)

/-- From arguments that satisfy the precondition, the reference's result is the kernel's. -/
theorem same_result {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (hp : Cert.Pre_positive_pivots.fn (F := Ideal) (Cert.KernelSums.tdOf m c) (Cert.KernelSums.thOf m c) = fun _ => 1#1)
    (htd : Cert.RefResult.tdOf m' c = Cert.KernelSums.tdOf m c) (hth : Cert.RefResult.thOf m' c = Cert.KernelSums.thOf m c) :
    (Cert.ReferenceIdeal.Value.out_main_v10 (Cert.ReferenceIdeal.Value.STEP^[64]
      (StableHlo.entryContents Cert.ReferenceIdeal.Value.preI m' c)) : FVec Ideal Cert.ReferenceIdeal.S64x1 .f32)
      = Cert.KernelIdeal.Value.G2 m c := by
  obtain ⟨T, D, hT, hD, hpiv⟩ := Cert.Precondition.spec hp
  obtain ⟨x, hx⟩ := hpiv.injective.exists_solves (Cert.KernelResult.realRhs T D)
  have hr := Cert.RefResult.result m' (c := c) (fun r j => (congrFun hth (ix2 r j)).trans (hT r j))
    (fun r => (congrFun htd (ix2 r 0)).trans (hD r)) hpiv.injective hx
  have hk := Cert.KernelResult.result m (c := c) hT hD hpiv hx
  funext y
  have e : y = ix2 (y 0) 0 := by
    funext a
    fin_cases a
    · rfl
    · exact Subsingleton.elim (α := Fin 1) _ _
  rw [e]
  exact (hr (y 0)).trans (hk (y 0)).symm

/-- The kernel and the reference end with equal results. -/
theorem algebraic : Cert.algebraic_KernelIdeal_ReferenceIdeal_pre_positive_pivots (hKernelIdeal := Cert.KernelIdeal.Gen.facts)
    (hReferenceIdeal := Cert.ReferenceIdeal.Gen.facts) (hPre_positive_pivots := Cert.PreFacts.facts) :=
  fun m g m' g' hpre hargs => ⟨fun c => Cert.KernelIdeal.Value.G2 m c, Cert.KernelIdeal.Value.run m g,
    (θ_run Cert.ReferenceIdeal.defs _ _).mono
      (fun _ h c => ⟨(h c).1.trans (same_result (hpre c) (hargs c).1 (hargs c).2), (h c).2.1, (h c).2.2⟩)
      (Cert.ReferenceIdeal.Value.run m' g')⟩

/-- Every claim of the certificate. -/
theorem claim : Cert.Claim :=
  ⟨Cert.Kernel.Gen.facts, Cert.KernelIdeal.Gen.facts, Cert.ReferenceIdeal.Gen.facts, Cert.PreFacts.facts,
    fun m g _ => Cert.Kernel.Gen.frame m g,
    fun m g _ => Cert.KernelIdeal.Gen.frame m g,
    fun m g _ => Cert.KernelIdeal.Gen.frame m g,
    reference_quiescent,
    fun m g _ => reference_quiescent m g trivial,
    trivial,
    algebraic⟩

end Cert.Proof

end
